-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S153600x1024 : Shape := ⟨2, ![153600, 1024]⟩
abbrev S32 : Shape := ⟨1, ![32]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩
abbrev S600 : Shape := ⟨1, ![600]⟩
abbrev S1x32 : Shape := ⟨2, ![1, 32]⟩
abbrev S600x1 : Shape := ⟨2, ![600, 1]⟩
abbrev S600x32 : Shape := ⟨2, ![600, 32]⟩
abbrev S1 : Shape := ⟨1, ![1]⟩
abbrev S32x1024x2048 : Shape := ⟨3, ![32, 1024, 2048]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x512x2048 : Shape := ⟨3, ![1, 512, 2048]⟩
abbrev S1x512x256 : Shape := ⟨3, ![1, 512, 256]⟩
abbrev S512x256 : Shape := ⟨2, ![512, 256]⟩
abbrev S32x2048 : Shape := ⟨2, ![32, 2048]⟩
abbrev S32x8x128x2 : Shape := ⟨4, ![32, 8, 128, 2]⟩
abbrev S32x8x2x128 : Shape := ⟨4, ![32, 8, 2, 128]⟩
abbrev S32x1x2048 : Shape := ⟨3, ![32, 1, 2048]⟩
abbrev S32x1024x1024 : Shape := ⟨3, ![32, 1024, 1024]⟩
abbrev S32x1024 : Shape := ⟨2, ![32, 1024]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S256x2048 : Shape := ⟨2, ![256, 2048]⟩
abbrev S1x2048 : Shape := ⟨2, ![1, 2048]⟩
abbrev S256x128 : Shape := ⟨2, ![256, 128]⟩
abbrev S1024x1024 : Shape := ⟨2, ![1024, 1024]⟩
abbrev S1x1024 : Shape := ⟨2, ![1, 1024]⟩

abbrev nBuf : Space → Nat
  | .hbm => 148
  | .vmem => 17
  | .smem => 2
  | _ => 0

abbrev hbmTy0_0 (i : Nat) : BufTy := match i % 128 with
  | 0 => ⟨S153600x1024, .f32⟩
  | 1 => ⟨S32, .i32⟩
  | 2 => ⟨S1x32x1024x2048, .f32⟩
  | 3 => ⟨S1x32x2048, .f32⟩
  | 4 => ⟨S1x32x1024x1024, .f32⟩
  | 5 => ⟨S1x32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S600, .i32⟩
  | 37 => ⟨S_, .i32⟩
  | 38 => ⟨S600, .i32⟩
  | 39 => ⟨S600, .i32⟩
  | 40 => ⟨S1x32, .i32⟩
  | 41 => ⟨S600x1, .i32⟩
  | 42 => ⟨S600x32, .i32⟩
  | 43 => ⟨S600x32, .i32⟩
  | 44 => ⟨S600x32, .i1⟩
  | 45 => ⟨S600x32, .i32⟩
  | 46 => ⟨S_, .i32⟩
  | 47 => ⟨S600, .i32⟩
  | 48 => ⟨S_, .i32⟩
  | 49 => ⟨S600, .i32⟩
  | 50 => ⟨S1, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i1⟩
  | 61 => ⟨S_, .i1⟩
  | 62 => ⟨S_, .i32⟩
  | 63 => ⟨S_, .i32⟩
  | 64 => ⟨S_, .i32⟩
  | 65 => ⟨S32x1024x2048, .f32⟩
  | 66 => ⟨S256, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S256, .i32⟩
  | 74 => ⟨S256, .i32⟩
  | 75 => ⟨S_, .i32⟩
  | 76 => ⟨S256, .i32⟩
  | 77 => ⟨S256, .i1⟩
  | 78 => ⟨S_, .i32⟩
  | 79 => ⟨S256, .i32⟩
  | 80 => ⟨S256, .i1⟩
  | 81 => ⟨S_, .i32⟩
  | 82 => ⟨S_, .i1⟩
  | 83 => ⟨S256, .i1⟩
  | 84 => ⟨S256, .i1⟩
  | 85 => ⟨S256, .i1⟩
  | 86 => ⟨S256, .i32⟩
  | 87 => ⟨S256, .i32⟩
  | 88 => ⟨S256, .i32⟩
  | 89 => ⟨S_, .i32⟩
  | 90 => ⟨S256, .i32⟩
  | 91 => ⟨S256, .i1⟩
  | 92 => ⟨S_, .i32⟩
  | 93 => ⟨S_, .i32⟩
  | 94 => ⟨S256, .i32⟩
  | 95 => ⟨S256, .i32⟩
  | 96 => ⟨S256, .i32⟩
  | 97 => ⟨S_, .i32⟩
  | 98 => ⟨S256, .i32⟩
  | 99 => ⟨S256, .i1⟩
  | 100 => ⟨S256, .i32⟩
  | 101 => ⟨S256, .i32⟩
  | 102 => ⟨S_, .i32⟩
  | 103 => ⟨S256, .i32⟩
  | 104 => ⟨S256, .i1⟩
  | 105 => ⟨S256, .i1⟩
  | 106 => ⟨S_, .i32⟩
  | 107 => ⟨S256, .i32⟩
  | 108 => ⟨S256, .i32⟩
  | 109 => ⟨S256, .i32⟩
  | 110 => ⟨S_, .i32⟩
  | 111 => ⟨S_, .i32⟩
  | 112 => ⟨S256, .i32⟩
  | 113 => ⟨S256, .i32⟩
  | 114 => ⟨S256, .i32⟩
  | 115 => ⟨S_, .i32⟩
  | 116 => ⟨S256, .i32⟩
  | 117 => ⟨S256, .i1⟩
  | 118 => ⟨S256, .i32⟩
  | 119 => ⟨S256, .i32⟩
  | 120 => ⟨S_, .i32⟩
  | 121 => ⟨S256, .i32⟩
  | 122 => ⟨S256, .i1⟩
  | 123 => ⟨S256, .i1⟩
  | 124 => ⟨S_, .i32⟩
  | 125 => ⟨S256, .i32⟩
  | 126 => ⟨S256, .i32⟩
  | 127 => ⟨S256, .i32⟩
  | _ => ⟨S153600x1024, .f32⟩

abbrev hbmTy0_1 (i : Nat) : BufTy := match i % 128 with
  | 0 => ⟨S_, .i32⟩
  | 1 => ⟨S256, .i32⟩
  | 2 => ⟨S256, .i32⟩
  | 3 => ⟨S256, .i32⟩
  | 4 => ⟨S256x1, .i32⟩
  | 5 => ⟨S1x256, .i32⟩
  | 6 => ⟨S256x256, .i32⟩
  | 7 => ⟨S256x256, .i32⟩
  | 8 => ⟨S256x256, .i1⟩
  | 9 => ⟨S256x256, .bf16⟩
  | 10 => ⟨S32x1024x2048, .bf16⟩
  | 11 => ⟨S32x2048, .f32⟩
  | 12 => ⟨S32x8x128x2, .f32⟩
  | 13 => ⟨S32x8x2x128, .f32⟩
  | 14 => ⟨S32x1x2048, .f32⟩
  | 15 => ⟨S32x1024x1024, .f32⟩
  | 16 => ⟨S32x1024x1024, .bf16⟩
  | 17 => ⟨S32x1024, .f32⟩
  | 18 => ⟨S32x1x1024, .f32⟩
  | 19 => ⟨S153600x1024, .f32⟩
  | _ => ⟨S153600x1024, .f32⟩

abbrev hbmTy (i : Nat) : BufTy := match i / 128 with
  | 0 => hbmTy0_0 i
  | 1 => hbmTy0_1 i
  | _ => ⟨S153600x1024, .f32⟩

abbrev bufTy : (tb : Table) → Fin (tcTables nBuf tb) → BufTy
  | .hbm, ⟨i, _⟩ => hbmTy i
  | .local _ .vmem, ⟨0, _⟩ => ⟨S1x512x2048, .f32⟩
  | .local _ .vmem, ⟨1, _⟩ => ⟨S1x512x2048, .f32⟩
  | .local _ .vmem, ⟨2, _⟩ => ⟨S256x256, .bf16⟩
  | .local _ .vmem, ⟨3, _⟩ => ⟨S1x512x2048, .bf16⟩
  | .local _ .vmem, ⟨4, _⟩ => ⟨S1x512x2048, .bf16⟩
  | .local _ .vmem, ⟨5, _⟩ => ⟨S256x1024, .f32⟩
  | .local _ .vmem, ⟨6, _⟩ => ⟨S256x1024, .f32⟩
  | .local _ .vmem, ⟨7, _⟩ => ⟨S1x1024x2048, .bf16⟩
  | .local _ .vmem, ⟨8, _⟩ => ⟨S1x1024x2048, .bf16⟩
  | .local _ .vmem, ⟨9, _⟩ => ⟨S1x1x2048, .f32⟩
  | .local _ .vmem, ⟨10, _⟩ => ⟨S1x1x2048, .f32⟩
  | .local _ .vmem, ⟨11, _⟩ => ⟨S1x1024x1024, .bf16⟩
  | .local _ .vmem, ⟨12, _⟩ => ⟨S1x1024x1024, .bf16⟩
  | .local _ .vmem, ⟨13, _⟩ => ⟨S1x1x1024, .f32⟩
  | .local _ .vmem, ⟨14, _⟩ => ⟨S1x1x1024, .f32⟩
  | .local _ .vmem, ⟨15, _⟩ => ⟨S256x1024, .f32⟩
  | .local _ .vmem, ⟨16, _⟩ => ⟨S256x1024, .f32⟩
  | .local _ .smem, ⟨0, _⟩ => ⟨S600, .i32⟩
  | .local _ .smem, ⟨1, _⟩ => ⟨S1, .i32⟩
  | _, _ => ⟨S153600x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v20 : Ref sig .tc := ⟨.hbm, 50, rfl⟩
abbrev main_v21 : Ref sig .tc := ⟨.hbm, 51, rfl⟩
abbrev main_c_6 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c : Ref sig .tc := ⟨.hbm, 59, rfl⟩
abbrev main_call2_v6 : Ref sig .tc := ⟨.hbm, 60, rfl⟩
abbrev main_call2_v7 : Ref sig .tc := ⟨.hbm, 61, rfl⟩
abbrev main_call2_c_0 : Ref sig .tc := ⟨.hbm, 62, rfl⟩
abbrev main_call2_v8 : Ref sig .tc := ⟨.hbm, 63, rfl⟩
abbrev main_v22 : Ref sig .tc := ⟨.hbm, 64, rfl⟩
abbrev main_v24 : Ref sig .tc := ⟨.hbm, 65, rfl⟩
abbrev main_v25 : Ref sig .tc := ⟨.hbm, 66, rfl⟩
abbrev main_c_7 : Ref sig .tc := ⟨.hbm, 67, rfl⟩
abbrev main_call3_v0 : Ref sig .tc := ⟨.hbm, 68, rfl⟩
abbrev main_call3_c : Ref sig .tc := ⟨.hbm, 69, rfl⟩
abbrev main_call3_v1 : Ref sig .tc := ⟨.hbm, 70, rfl⟩
abbrev main_call3_c_0 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_c_1 : Ref sig .tc := ⟨.hbm, 75, rfl⟩
abbrev main_call3_v5 : Ref sig .tc := ⟨.hbm, 76, rfl⟩
abbrev main_call3_v6 : Ref sig .tc := ⟨.hbm, 77, rfl⟩
abbrev main_call3_c_2 : Ref sig .tc := ⟨.hbm, 78, rfl⟩
abbrev main_call3_v7 : Ref sig .tc := ⟨.hbm, 79, rfl⟩
abbrev main_call3_v8 : Ref sig .tc := ⟨.hbm, 80, rfl⟩
abbrev main_call3_c_3 : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_v12 : Ref sig .tc := ⟨.hbm, 85, rfl⟩
abbrev main_call3_v13 : Ref sig .tc := ⟨.hbm, 86, rfl⟩
abbrev main_call3_v14 : Ref sig .tc := ⟨.hbm, 87, rfl⟩
abbrev main_v26 : Ref sig .tc := ⟨.hbm, 88, rfl⟩
abbrev main_c_8 : Ref sig .tc := ⟨.hbm, 89, rfl⟩
abbrev main_v27 : Ref sig .tc := ⟨.hbm, 90, rfl⟩
abbrev main_v28 : Ref sig .tc := ⟨.hbm, 91, rfl⟩
abbrev main_c_9 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_v5 : Ref sig .tc := ⟨.hbm, 98, rfl⟩
abbrev main_call4_v6 : Ref sig .tc := ⟨.hbm, 99, rfl⟩
abbrev main_call4_v7 : Ref sig .tc := ⟨.hbm, 100, rfl⟩
abbrev main_call4_v8 : Ref sig .tc := ⟨.hbm, 101, rfl⟩
abbrev main_call4_c : Ref sig .tc := ⟨.hbm, 102, rfl⟩
abbrev main_call4_v9 : Ref sig .tc := ⟨.hbm, 103, rfl⟩
abbrev main_call4_v10 : Ref sig .tc := ⟨.hbm, 104, rfl⟩
abbrev main_call4_v11 : Ref sig .tc := ⟨.hbm, 105, rfl⟩
abbrev main_call4_c_0 : Ref sig .tc := ⟨.hbm, 106, rfl⟩
abbrev main_call4_v12 : Ref sig .tc := ⟨.hbm, 107, rfl⟩
abbrev main_call4_v13 : Ref sig .tc := ⟨.hbm, 108, rfl⟩
abbrev main_v29 : Ref sig .tc := ⟨.hbm, 109, rfl⟩
abbrev main_c_10 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_v5 : Ref sig .tc := ⟨.hbm, 116, rfl⟩
abbrev main_call5_v6 : Ref sig .tc := ⟨.hbm, 117, rfl⟩
abbrev main_call5_v7 : Ref sig .tc := ⟨.hbm, 118, rfl⟩
abbrev main_call5_v8 : Ref sig .tc := ⟨.hbm, 119, rfl⟩
abbrev main_call5_c : Ref sig .tc := ⟨.hbm, 120, rfl⟩
abbrev main_call5_v9 : Ref sig .tc := ⟨.hbm, 121, rfl⟩
abbrev main_call5_v10 : Ref sig .tc := ⟨.hbm, 122, rfl⟩
abbrev main_call5_v11 : Ref sig .tc := ⟨.hbm, 123, rfl⟩
abbrev main_call5_c_0 : Ref sig .tc := ⟨.hbm, 124, rfl⟩
abbrev main_call5_v12 : Ref sig .tc := ⟨.hbm, 125, rfl⟩
abbrev main_call5_v13 : Ref sig .tc := ⟨.hbm, 126, rfl⟩
abbrev main_v30 : Ref sig .tc := ⟨.hbm, 127, rfl⟩
abbrev main_c_11 : Ref sig .tc := ⟨.hbm, 128, rfl⟩
abbrev main_v31 : Ref sig .tc := ⟨.hbm, 129, rfl⟩
abbrev main_v32 : Ref sig .tc := ⟨.hbm, 130, rfl⟩
abbrev main_v33 : Ref sig .tc := ⟨.hbm, 131, rfl⟩
abbrev main_v34 : Ref sig .tc := ⟨.hbm, 132, rfl⟩
abbrev main_v35 : Ref sig .tc := ⟨.hbm, 133, rfl⟩
abbrev main_v36 : Ref sig .tc := ⟨.hbm, 134, rfl⟩
abbrev main_v37 : Ref sig .tc := ⟨.hbm, 135, rfl⟩
abbrev main_v38 : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_v42 : Ref sig .tc := ⟨.hbm, 140, rfl⟩
abbrev main_v43 : Ref sig .tc := ⟨.hbm, 141, rfl⟩
abbrev main_v44 : Ref sig .tc := ⟨.hbm, 142, rfl⟩
abbrev main_v45 : Ref sig .tc := ⟨.hbm, 143, rfl⟩
abbrev main_v46 : Ref sig .tc := ⟨.hbm, 144, rfl⟩
abbrev main_v47 : Ref sig .tc := ⟨.hbm, 145, rfl⟩
abbrev main_v48 : Ref sig .tc := ⟨.hbm, 146, rfl⟩
abbrev main_v49 : Ref sig .tc := ⟨.hbm, 147, rfl⟩
abbrev main_v19 : Ref sig .tc := ⟨.smem, 0, rfl⟩
abbrev main_v23 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![600], ![false]⟩

abbrev pre1 : Pipeline.Prefetch sig := ⟨2, ![main_v19.idx, main_v23.idx], fun | 0 => main_v19.names | 1 => main_v23.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond1 (i : grid1.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k1_cond2 (i : grid1.Coords) (v0 : BitVec 32) : BitVec 1 :=
  let arg0 : BitVec 32 := BitVec.ofNat 32 (i 0).val
  let v4 : BitVec 1 := Scalar.cmpi .sge arg0 v0
  let v5 : BitVec 32 := Scalar.extui v4
  let c0_i32_0 : BitVec 32 := 0#32
  let v6 : BitVec 1 := Scalar.cmpi .ne v5 c0_i32_0
  v6

def cc1_transform_0 (inb_S1_S1_0 : ∀ a, (![0] : Fin 1 → Nat) a + S1.size a ≤ S1.size a) (numel1_S1 : S1.numel = 1) (pf : pre1.Contents (Elt F)) (i : grid1.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc1_transform_1 (k1_off1_inb : ∀ i : grid1.Coords, ∀ a, (k1_off1 i) a + S1.size a ≤ S600.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S600) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S600.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S600) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S600.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S600) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (k1_off1_inb : ∀ i : grid1.Coords, ∀ a, (k1_off1 i) a + S1.size a ≤ S600.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S600) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S153600x1024 : Shape := ⟨2, ![153600, 1024]⟩
abbrev S32 : Shape := ⟨1, ![32]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩
abbrev S600 : Shape := ⟨1, ![600]⟩
abbrev S1x32 : Shape := ⟨2, ![1, 32]⟩
abbrev S600x1 : Shape := ⟨2, ![600, 1]⟩
abbrev S600x32 : Shape := ⟨2, ![600, 32]⟩
abbrev S600x256x1024 : Shape := ⟨3, ![600, 256, 1024]⟩
abbrev S32x1024x2048 : Shape := ⟨3, ![32, 1024, 2048]⟩
abbrev S600x1024x2048 : Shape := ⟨3, ![600, 1024, 2048]⟩
abbrev S600x256x2048 : Shape := ⟨3, ![600, 256, 2048]⟩
abbrev S32x2048 : Shape := ⟨2, ![32, 2048]⟩
abbrev S600x2048 : Shape := ⟨2, ![600, 2048]⟩
abbrev S600x1x2048 : Shape := ⟨3, ![600, 1, 2048]⟩
abbrev S32x1024x1024 : Shape := ⟨3, ![32, 1024, 1024]⟩
abbrev S600x1024x1024 : Shape := ⟨3, ![600, 1024, 1024]⟩
abbrev S32x1024 : Shape := ⟨2, ![32, 1024]⟩
abbrev S600x1024 : Shape := ⟨2, ![600, 1024]⟩
abbrev S600x1x1024 : Shape := ⟨3, ![600, 1, 1024]⟩
abbrev S1 : Shape := ⟨1, ![1]⟩
abbrev S600x1x1 : Shape := ⟨3, ![600, 1, 1]⟩

abbrev nBuf : Space → Nat
  | .hbm => 154
  | .vmem => 0
  | .smem => 0
  | _ => 0

abbrev hbmTy0_0 (i : Nat) : BufTy := match i % 128 with
  | 0 => ⟨S153600x1024, .f32⟩
  | 1 => ⟨S32, .i32⟩
  | 2 => ⟨S1x32x1024x2048, .f32⟩
  | 3 => ⟨S1x32x2048, .f32⟩
  | 4 => ⟨S1x32x1024x1024, .f32⟩
  | 5 => ⟨S1x32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S600, .i32⟩
  | 37 => ⟨S_, .i32⟩
  | 38 => ⟨S600, .i32⟩
  | 39 => ⟨S600, .i32⟩
  | 40 => ⟨S1x32, .i32⟩
  | 41 => ⟨S600x1, .i32⟩
  | 42 => ⟨S600x32, .i32⟩
  | 43 => ⟨S600x32, .i32⟩
  | 44 => ⟨S600x32, .i1⟩
  | 45 => ⟨S600x32, .i32⟩
  | 46 => ⟨S_, .i32⟩
  | 47 => ⟨S600, .i32⟩
  | 48 => ⟨S_, .i32⟩
  | 49 => ⟨S600, .i32⟩
  | 50 => ⟨S600, .i32⟩
  | 51 => ⟨S600x256x1024, .f32⟩
  | 52 => ⟨S32x1024x2048, .f32⟩
  | 53 => ⟨S_, .i32⟩
  | 54 => ⟨S600, .i32⟩
  | 55 => ⟨S600, .i1⟩
  | 56 => ⟨S_, .i32⟩
  | 57 => ⟨S600, .i32⟩
  | 58 => ⟨S600, .i32⟩
  | 59 => ⟨S600, .i32⟩
  | 60 => ⟨S600x1, .i32⟩
  | 61 => ⟨S600x1024x2048, .f32⟩
  | 62 => ⟨S600x256x2048, .f32⟩
  | 63 => ⟨S32x2048, .f32⟩
  | 64 => ⟨S_, .i32⟩
  | 65 => ⟨S600, .i32⟩
  | 66 => ⟨S600, .i1⟩
  | 67 => ⟨S_, .i32⟩
  | 68 => ⟨S600, .i32⟩
  | 69 => ⟨S600, .i32⟩
  | 70 => ⟨S600, .i32⟩
  | 71 => ⟨S600x1, .i32⟩
  | 72 => ⟨S600x2048, .f32⟩
  | 73 => ⟨S600x1x2048, .f32⟩
  | 74 => ⟨S600x256x2048, .f32⟩
  | 75 => ⟨S600x256x2048, .f32⟩
  | 76 => ⟨S600x256x1024, .f32⟩
  | 77 => ⟨S_, .f32⟩
  | 78 => ⟨S600x256x1024, .f32⟩
  | 79 => ⟨S600x256x1024, .f32⟩
  | 80 => ⟨S600x256x1024, .f32⟩
  | 81 => ⟨S_, .f32⟩
  | 82 => ⟨S_, .f32⟩
  | 83 => ⟨S_, .f32⟩
  | 84 => ⟨S600x256x1024, .f32⟩
  | 85 => ⟨S600x256x1024, .f32⟩
  | 86 => ⟨S_, .f32⟩
  | 87 => ⟨S600x256x1024, .f32⟩
  | 88 => ⟨S600x256x1024, .f32⟩
  | 89 => ⟨S_, .f32⟩
  | 90 => ⟨S600x256x1024, .f32⟩
  | 91 => ⟨S600x256x1024, .f32⟩
  | 92 => ⟨S600x256x1024, .f32⟩
  | 93 => ⟨S600x256x1024, .f32⟩
  | 94 => ⟨S_, .f32⟩
  | 95 => ⟨S600x256x1024, .f32⟩
  | 96 => ⟨S600x256x1024, .f32⟩
  | 97 => ⟨S_, .f32⟩
  | 98 => ⟨S600x256x1024, .f32⟩
  | 99 => ⟨S600x256x1024, .f32⟩
  | 100 => ⟨S600x256x1024, .f32⟩
  | 101 => ⟨S_, .f32⟩
  | 102 => ⟨S600x256x1024, .f32⟩
  | 103 => ⟨S600x256x1024, .f32⟩
  | 104 => ⟨S600x256x1024, .f32⟩
  | 105 => ⟨S32x1024x1024, .f32⟩
  | 106 => ⟨S_, .i32⟩
  | 107 => ⟨S600, .i32⟩
  | 108 => ⟨S600, .i1⟩
  | 109 => ⟨S_, .i32⟩
  | 110 => ⟨S600, .i32⟩
  | 111 => ⟨S600, .i32⟩
  | 112 => ⟨S600, .i32⟩
  | 113 => ⟨S600x1, .i32⟩
  | 114 => ⟨S600x1024x1024, .f32⟩
  | 115 => ⟨S600x256x1024, .f32⟩
  | 116 => ⟨S32x1024, .f32⟩
  | 117 => ⟨S_, .i32⟩
  | 118 => ⟨S600, .i32⟩
  | 119 => ⟨S600, .i1⟩
  | 120 => ⟨S_, .i32⟩
  | 121 => ⟨S600, .i32⟩
  | 122 => ⟨S600, .i32⟩
  | 123 => ⟨S600, .i32⟩
  | 124 => ⟨S600x1, .i32⟩
  | 125 => ⟨S600x1024, .f32⟩
  | 126 => ⟨S600x1x1024, .f32⟩
  | 127 => ⟨S600x256x1024, .f32⟩
  | _ => ⟨S153600x1024, .f32⟩

abbrev hbmTy0_1 (i : Nat) : BufTy := match i % 128 with
  | 0 => ⟨S600x256x1024, .f32⟩
  | 1 => ⟨S600, .i32⟩
  | 2 => ⟨S1, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i1⟩
  | 13 => ⟨S_, .i1⟩
  | 14 => ⟨S_, .i32⟩
  | 15 => ⟨S_, .i32⟩
  | 16 => ⟨S_, .i32⟩
  | 17 => ⟨S600, .i32⟩
  | 18 => ⟨S600, .i1⟩
  | 19 => ⟨S600x1x1, .i1⟩
  | 20 => ⟨S_, .f32⟩
  | 21 => ⟨S_, .f32⟩
  | 22 => ⟨S600x256x1024, .i1⟩
  | 23 => ⟨S600x256x1024, .f32⟩
  | 24 => ⟨S600x256x1024, .f32⟩
  | 25 => ⟨S153600x1024, .f32⟩
  | _ => ⟨S153600x1024, .f32⟩

abbrev hbmTy (i : Nat) : BufTy := match i / 128 with
  | 0 => hbmTy0_0 i
  | 1 => hbmTy0_1 i
  | _ => ⟨S153600x1024, .f32⟩

abbrev bufTy : (tb : Table) → Fin (tcTables nBuf tb) → BufTy
  | .hbm, ⟨i, _⟩ => hbmTy i
  | _, _ => ⟨S153600x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_6 : Ref sig .tc := ⟨.hbm, 53, rfl⟩
abbrev main_v22 : Ref sig .tc := ⟨.hbm, 54, rfl⟩
abbrev main_v23 : Ref sig .tc := ⟨.hbm, 55, rfl⟩
abbrev main_c_7 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_8 : Ref sig .tc := ⟨.hbm, 64, rfl⟩
abbrev main_v31 : Ref sig .tc := ⟨.hbm, 65, rfl⟩
abbrev main_v32 : Ref sig .tc := ⟨.hbm, 66, rfl⟩
abbrev main_c_9 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_10 : Ref sig .tc := ⟨.hbm, 81, rfl⟩
abbrev main_cst_11 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v45 : Ref sig .tc := ⟨.hbm, 88, rfl⟩
abbrev main_cst_12 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_13 : Ref sig .tc := ⟨.hbm, 94, rfl⟩
abbrev main_v50 : Ref sig .tc := ⟨.hbm, 95, rfl⟩
abbrev main_v51 : Ref sig .tc := ⟨.hbm, 96, rfl⟩
abbrev main_cst_14 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_15 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_c_16 : Ref sig .tc := ⟨.hbm, 106, rfl⟩
abbrev main_v59 : Ref sig .tc := ⟨.hbm, 107, rfl⟩
abbrev main_v60 : Ref sig .tc := ⟨.hbm, 108, rfl⟩
abbrev main_c_17 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_c_18 : Ref sig .tc := ⟨.hbm, 117, rfl⟩
abbrev main_v68 : Ref sig .tc := ⟨.hbm, 118, rfl⟩
abbrev main_v69 : Ref sig .tc := ⟨.hbm, 119, rfl⟩
abbrev main_c_19 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_c_20 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_c : Ref sig .tc := ⟨.hbm, 139, rfl⟩
abbrev main_call3_v6 : Ref sig .tc := ⟨.hbm, 140, rfl⟩
abbrev main_call3_v7 : Ref sig .tc := ⟨.hbm, 141, rfl⟩
abbrev main_call3_c_0 : Ref sig .tc := ⟨.hbm, 142, rfl⟩
abbrev main_call3_v8 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_cst_21 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_v85 : Ref sig .tc := ⟨.hbm, 152, rfl⟩
abbrev main_v86 : Ref sig .tc := ⟨.hbm, 153, rfl⟩

abbrev nD : Nat := 1
abbrev τ : Topo := Topo.v7x

variable {F : FTy → Type} [FloatOps F]
-- ==== Proof.PrepBody.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.Frame
public import Idealize.ShloMosaic.Lib.Pipeline.FrameBody
public import Idealize.ShloMosaic.Lib.Exec
public import Idealize.ShloMosaic.Lib.Tactic

@[expose] public section

/-! The first call, which permutes the columns of the first weight matrices: what its body leaves in the output's
buffer at a grid point, and the body's triple there, for any contents `W` of the arrays at the call. -/

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array at the call. -/
def pblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

theorem p_before0 {c : Dev nD} (dat : Dat τ (Elt F) Unit ℕ (UR sig nD τ) ℕ cfg0 c) (hA : dat.A 0 = W c (Proc.devRef .tc (Pipeline.arrRef spec0 0)))
    (ha : ∀ t, dat.after 0 t = pblk W c 0 t) (t : Fin cfg0.N) (d) : dat.before 0 t d = pblk W c 0 t :=
  (dat.before_in_eq_fetched 0 rfl (fun _ => rfl) (fun _ _ _ => rfl) (fun t => by rw [ha]; unfold Dat.blockOf pblk; rw [hA]; try rfl) t d).trans
    (by unfold Dat.fetched Dat.blockOf pblk; rw [hA]; try rfl)

theorem p_before1 {c : Dev nD} (dat : Dat τ (Elt F) Unit ℕ (UR sig nD τ) ℕ cfg0 c) (hA : dat.A 1 = W c (Proc.devRef .tc (Pipeline.arrRef spec0 1)))
    (ha : ∀ t, dat.after 1 t = pblk W c 1 t) (t : Fin cfg0.N) (d) : dat.before 1 t d = pblk W c 1 t :=
  (dat.before_in_eq_fetched 1 rfl (fun _ => rfl) (fun _ _ _ => rfl) (fun t => by rw [ha]; unfold Dat.blockOf pblk; rw [hA]; try rfl) t d).trans
    (by unfold Dat.fetched Dat.blockOf pblk; rw [hA]; try rfl)

/-- The column strips the body reads and writes: strip `j` is columns `256 j` to `256 j + 255`. -/
abbrev q0 : Rect S1x512x2048 := Rect.unit (s := S1x512x2048) ![0, 0, 0] S1x512x256.size inb_S1x512x2048_S1x512x256_0_0_0
abbrev q1 : Rect S1x512x2048 := Rect.unit (s := S1x512x2048) ![0, 0, 256] S1x512x256.size inb_S1x512x2048_S1x512x256_0_0_256
abbrev q2 : Rect S1x512x2048 := Rect.unit (s := S1x512x2048) ![0, 0, 512] S1x512x256.size inb_S1x512x2048_S1x512x256_0_0_512
abbrev q3 : Rect S1x512x2048 := Rect.unit (s := S1x512x2048) ![0, 0, 768] S1x512x256.size inb_S1x512x2048_S1x512x256_0_0_768
abbrev q4 : Rect S1x512x2048 := Rect.unit (s := S1x512x2048) ![0, 0, 1024] S1x512x256.size inb_S1x512x2048_S1x512x256_0_0_1024
abbrev q5 : Rect S1x512x2048 := Rect.unit (s := S1x512x2048) ![0, 0, 1280] S1x512x256.size inb_S1x512x2048_S1x512x256_0_0_1280
abbrev q6 : Rect S1x512x2048 := Rect.unit (s := S1x512x2048) ![0, 0, 1536] S1x512x256.size inb_S1x512x2048_S1x512x256_0_0_1536
abbrev q7 : Rect S1x512x2048 := Rect.unit (s := S1x512x2048) ![0, 0, 1792] S1x512x256.size inb_S1x512x2048_S1x512x256_0_0_1792
/-- The whole permutation matrix. -/
abbrev qp : Rect S256x256 := Rect.unit (s := S256x256) ![0, 0] S256x256.size inb_S256x256_S256x256_0_0

/-- The output's buffer after the body, from the input blocks: the eight strips written, the last one first. -/
def pout (x0 : Vec F S1x512x2048 .f32) (x1 : Vec F S256x256 .bf16) : Vec F S1x512x2048 .bf16 :=
  View.canon [⟨q7, k0_pay3 (View.ld x0 q7) (View.ld x1 qp)⟩, ⟨q6, k0_pay2 (View.ld x0 q6) (View.ld x1 qp)⟩,
    ⟨q5, k0_pay1 (k0_pay10 (View.ld x0 q5) (View.ld x1 qp))⟩, ⟨q4, k0_pay9 (View.ld x0 q4) (View.ld x1 qp)⟩,
    ⟨q3, k0_pay8 (View.ld x0 q3) (View.ld x1 qp)⟩, ⟨q2, k0_pay7 (k0_pay6 (View.ld x0 q2) (View.ld x1 qp))⟩,
    ⟨q1, k0_pay5 (View.ld x0 q1) (View.ld x1 qp)⟩, ⟨q0, k0_pay4 (View.ld x0 q0) (View.ld x1 qp)⟩]

/-- The strips tile the buffer. -/
theorem pcover (p7 p6 p5 p4 p3 p2 p1 p0 : Vec F S1x512x256 .bf16) (y : S1x512x2048.Idx) :
    ∃ pc ∈ ([⟨q7, p7⟩, ⟨q6, p6⟩, ⟨q5, p5⟩, ⟨q4, p4⟩, ⟨q3, p3⟩, ⟨q2, p2⟩, ⟨q1, p1⟩, ⟨q0, p0⟩] : List (View.Piece (Elt F) S1x512x2048 .bf16)), y ∈ pc.1.set :=
  View.cover_of_tiled [⟨q7, p7⟩, ⟨q6, p6⟩, ⟨q5, p5⟩, ⟨q4, p4⟩, ⟨q3, p3⟩, ⟨q2, p2⟩, ⟨q1, p1⟩, ⟨q0, p0⟩] S1x512x256.size (by rfl) y

set_option maxHeartbeats 1000000 in
/-- The body from its inputs' buffers at `x0`, `x1` leaves them so and the output's at `pout x0 x1`. -/
theorem prep_triple (c : Dev nD) (E : Set ℕ) (i : grid0.Coords) (arg2 : Memref sig .tc .vmem S1x512x2048 .f32) (harg2 : arg2.IsWhole)
    (arg3 : Memref sig .tc .vmem S256x256 .bf16) (harg3 : arg3.IsWhole) (arg4 : Memref sig .tc .vmem S1x512x2048 .bf16) (harg4 : arg4.IsWhole)
    (x0 : Vec F S1x512x2048 .f32) (x1 : Vec F S256x256 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (pout x0 x1)) -∗ K ⟨⟩))
      ⊢ wp frame (wpE (defs₀ (F := F)) Variants.none c none) E (cc0_w1_prep i arg2 harg2 arg3 harg3 arg4 harg4) K := by
  simp only [cc0_w1_prep_eq_skeleton]; unfold cc0_w1_prep_skel
  simp only [k0_part1_eq_skeleton, k0_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (pcover _ _ _ _ _ _ _ _)

/-- The call's proof data: the arrays at `W`; the inputs' buffers at their blocks and the output's at `pout` of them. -/
def pdat (c : Dev nD) : Dat τ (Elt F) Unit ℕ (UR sig nD τ) ℕ cfg0 c where
  A w := W c (Proc.devRef .tc (Pipeline.arrRef spec0 w))
  after w t := match w with
    | ⟨0, _⟩ => pblk W c 0 t
    | ⟨1, _⟩ => pblk W c 1 t
    | ⟨2, _⟩ => pout (pblk W c 0 t) (pblk W c 1 t)
  Φ _ := Pipeline.ΦA spec0 c
  q _ := fullShare
  owed _ := 0

theorem p_A (c : Dev nD) (w : Fin cfg0.W) : (pdat W c).A w = W c (Proc.devRef .tc (Pipeline.arrRef spec0 w)) := by dsimp only [pdat]
theorem p_after0 (c : Dev nD) (t : Fin cfg0.N) : (pdat W c).after 0 t = pblk W c 0 t := by dsimp only [pdat]
theorem p_after1 (c : Dev nD) (t : Fin cfg0.N) : (pdat W c).after 1 t = pblk W c 1 t := by dsimp only [pdat]
theorem p_after2 (c : Dev nD) (t : Fin cfg0.N) : (pdat W c).after 2 t = pout (pblk W c 0 t) (pblk W c 1 t) := by dsimp only [pdat]

/-- The body at a grid point, from the buffers as it finds them to the buffers as the proof data say. -/
theorem prep_body (c : Dev nD) (t : Fin cfg0.N) :
    iprop((pdat W c).Φ t.castSucc ∗ (pdat W c).owesAt () t.castSucc
      ∗ (∃ d, owns (c : Thread nD τ) (st0_0 t) fullShare ((pdat W c).before 0 t d))
      ∗ (∃ d, owns (c : Thread nD τ) (st0_1 t) fullShare ((pdat W c).before 1 t d))
      ∗ (∃ d, owns (c : Thread nD τ) (st0_2 t) fullShare ((pdat W c).before 2 t d)))
      ⊢ wp frame (wpE (defs₀ (F := F)) Variants.none c none) Set.univ (bodyAt0 t) (fun _ =>
        iprop((pdat W c).Φ t.succ ∗ (pdat W c).owesAt () t.succ
          ∗ owns (c : Thread nD τ) (st0_0 t) fullShare ((pdat W c).after 0 t)
          ∗ owns (c : Thread nD τ) (st0_1 t) fullShare ((pdat W c).after 1 t)
          ∗ owns (c : Thread nD τ) (st0_2 t) fullShare ((pdat W c).after 2 t))) := by
  unfold bodyAt0
  simp only [p_before0 W (pdat W c) (p_A W c 0) (p_after0 W c), p_before1 W (pdat W c) (p_A W c 1) (p_after1 W c)]
  rw [show (pdat W c).Φ t.succ = (pdat W c).Φ t.castSucc from rfl,
    show (pdat W c).owesAt () t.succ = (pdat W c).owesAt () t.castSucc from rfl, p_after0, p_after1, p_after2]
  iintro ⟨HΦ, Ho, ⟨%d0, H0⟩, ⟨%d1, H1⟩, ⟨%d2, H2⟩⟩
  iapply (prep_triple c Set.univ (grid0.coords t) _ _ _ _ _ _ (pblk W c 0 t) (pblk W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem prep_row (t : Fin cfg0.N) : defs₀ (F := F) .tc cfg0.body (cfg0.bodyArgs t (cfg0.slots t)) = bodyAt0 t := by
  unfold defs₀; rw [Defs.onTc_tc]

theorem prep_obligation (c : Dev nD) : BodyObligation (pdat W c) (defs₀ (F := F)) Variants.none () Set.univ := fun t => by
  rw [bigSep_W0, bigSep_W0, prep_row]
  exact triple_restated (prep_body W c t) rfl .rfl fun _ => .rfl

end Cert.KernelIdeal.Moe

end
-- ==== Proof.MoeBody.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.Frame
public import Idealize.ShloMosaic.Lib.Pipeline.FrameBody
public import Idealize.ShloMosaic.Lib.Exec
public import Idealize.ShloMosaic.Lib.Tactic

@[expose] public section

/-! The second call, the experts' two layers over the sorted rows: what its body leaves in the output's buffer at a
grid point, and the body's triple there, for any admissible tables `a` and any contents `W` of the arrays at the call. -/

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg1 (F := F)).Adm) (W : Dev nD → Valuation τ sig (Elt F))

/-- The first branch runs at the points below the word, as signed words. -/
theorem cond1_eq (i : grid1.Coords) (v : BitVec 32) : k1_cond1 i v = IntOp.cmpi .slt (BitVec.ofNat 32 (i 0).val) v := by
  show IntOp.cmpi .ne ((IntOp.cmpi .slt (BitVec.ofNat 32 (i 0).val) v).setWidth 32) 0#32 = IntOp.cmpi .slt (BitVec.ofNat 32 (i 0).val) v
  generalize IntOp.cmpi .slt (BitVec.ofNat 32 (i 0).val) v = b
  revert b; decide

/-- The second at the others. -/
theorem cond2_eq (i : grid1.Coords) (v : BitVec 32) : k1_cond2 i v = ~~~ k1_cond1 i v := by
  rw [cond1_eq]
  show IntOp.cmpi .ne ((IntOp.cmpi .sge (BitVec.ofNat 32 (i 0).val) v).setWidth 32) 0#32 = ~~~ IntOp.cmpi .slt (BitVec.ofNat 32 (i 0).val) v
  rw [show IntOp.cmpi .sge (BitVec.ofNat 32 (i 0).val) v = BitVec.ofBool (decide (v.toInt ≤ (BitVec.ofNat 32 (i 0).val).toInt)) from rfl,
    show IntOp.cmpi .slt (BitVec.ofNat 32 (i 0).val) v = BitVec.ofBool (decide ((BitVec.ofNat 32 (i 0).val).toInt < v.toInt)) from rfl]
  by_cases h : (BitVec.ofNat 32 (i 0).val).toInt < v.toInt
  · rw [decide_eq_true h, decide_eq_false (by omega)]; decide
  · rw [decide_eq_false h, decide_eq_true (by omega)]; decide

theorem cond2_of_not {i : grid1.Coords} {v : BitVec 32} (h : ¬ k1_cond1 i v = 1#1) : k1_cond2 i v = 1#1 := by
  rw [cond2_eq]; revert h; generalize k1_cond1 i v = b; revert b; decide
theorem not_cond2_of {i : grid1.Coords} {v : BitVec 32} (h : k1_cond1 i v = 1#1) : ¬ k1_cond2 i v = 1#1 := by
  rw [cond2_eq, h]; decide

/-- So at every point the body writes its output's buffer. -/
theorem idle_false (pf : pre1.Contents (Elt F)) (w : Fin 6) (i : grid1.Coords) : idle1 pf w i = false := by
  match w with
  | 0 => rfl
  | 1 => rfl
  | 2 => rfl
  | 3 => rfl
  | 4 => rfl
  | 5 =>
    have h : ∀ v : BitVec 32, (!(k1_cond1 i v == 1#1) && !(k1_cond2 i v == 1#1)) = false := fun v => by
      rw [cond2_eq]; generalize k1_cond1 i v = b; revert b; decide
    exact h _

/-- The number of row blocks in use, the second table's one word. -/
def nuw : BitVec 32 := a.1.at 1 (Rect.unit (s := S1) ![0] S1.size inb_S1_S1_0) numel1_S1

/-- Window `w`'s block at point `t`, read off its array at the call. -/
def mblk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (W c (Proc.devRef .tc (Pipeline.arrRef spec1 w)))

theorem m_before0 {c : Dev nD} (dat : Dat τ (Elt F) Unit ℕ (UR sig nD τ) ℕ (cfg1 a) c) (hA : dat.A 0 = W c (Proc.devRef .tc (Pipeline.arrRef spec1 0)))
    (ha : ∀ t, dat.after 0 t = mblk a W c 0 t) (t : Fin (cfg1 a).N) (d) : dat.before 0 t d = mblk a W c 0 t :=
  (dat.before_in_eq_fetched 0 rfl (fun _ => rfl) (fun _ _ _ => rfl) (fun t => by rw [ha]; unfold Dat.blockOf mblk; rw [hA]; try rfl) t d).trans
    (by unfold Dat.fetched Dat.blockOf mblk; rw [hA]; try rfl)

theorem m_before1 {c : Dev nD} (dat : Dat τ (Elt F) Unit ℕ (UR sig nD τ) ℕ (cfg1 a) c) (hA : dat.A 1 = W c (Proc.devRef .tc (Pipeline.arrRef spec1 1)))
    (ha : ∀ t, dat.after 1 t = mblk a W c 1 t) (t : Fin (cfg1 a).N) (d) : dat.before 1 t d = mblk a W c 1 t :=
  (dat.before_in_eq_fetched 1 rfl (fun _ => rfl) (fun _ _ _ => rfl) (fun t => by rw [ha]; unfold Dat.blockOf mblk; rw [hA]; try rfl) t d).trans
    (by unfold Dat.fetched Dat.blockOf mblk; rw [hA]; try rfl)

theorem m_before2 {c : Dev nD} (dat : Dat τ (Elt F) Unit ℕ (UR sig nD τ) ℕ (cfg1 a) c) (hA : dat.A 2 = W c (Proc.devRef .tc (Pipeline.arrRef spec1 2)))
    (ha : ∀ t, dat.after 2 t = mblk a W c 2 t) (t : Fin (cfg1 a).N) (d) : dat.before 2 t d = mblk a W c 2 t :=
  (dat.before_in_eq_fetched 2 rfl (fun _ => rfl) (fun _ _ _ => rfl) (fun t => by rw [ha]; unfold Dat.blockOf mblk; rw [hA]; try rfl) t d).trans
    (by unfold Dat.fetched Dat.blockOf mblk; rw [hA]; try rfl)

theorem m_before3 {c : Dev nD} (dat : Dat τ (Elt F) Unit ℕ (UR sig nD τ) ℕ (cfg1 a) c) (hA : dat.A 3 = W c (Proc.devRef .tc (Pipeline.arrRef spec1 3)))
    (ha : ∀ t, dat.after 3 t = mblk a W c 3 t) (t : Fin (cfg1 a).N) (d) : dat.before 3 t d = mblk a W c 3 t :=
  (dat.before_in_eq_fetched 3 rfl (fun _ => rfl) (fun _ _ _ => rfl) (fun t => by rw [ha]; unfold Dat.blockOf mblk; rw [hA]; try rfl) t d).trans
    (by unfold Dat.fetched Dat.blockOf mblk; rw [hA]; try rfl)

theorem m_before4 {c : Dev nD} (dat : Dat τ (Elt F) Unit ℕ (UR sig nD τ) ℕ (cfg1 a) c) (hA : dat.A 4 = W c (Proc.devRef .tc (Pipeline.arrRef spec1 4)))
    (ha : ∀ t, dat.after 4 t = mblk a W c 4 t) (t : Fin (cfg1 a).N) (d) : dat.before 4 t d = mblk a W c 4 t :=
  (dat.before_in_eq_fetched 4 rfl (fun _ => rfl) (fun _ _ _ => rfl) (fun t => by rw [ha]; unfold Dat.blockOf mblk; rw [hA]; try rfl) t d).trans
    (by unfold Dat.fetched Dat.blockOf mblk; rw [hA]; try rfl)

/-- The whole buffers the body reads and writes. -/
abbrev r0 : Rect S256x1024 := Rect.unit (s := S256x1024) ![0, 0] S256x1024.size inb_S256x1024_S256x1024_0_0
abbrev r1 : Rect S1x1024x2048 := Rect.unit (s := S1x1024x2048) ![0, 0, 0] S1x1024x2048.size inb_S1x1024x2048_S1x1024x2048_0_0_0
abbrev r2 : Rect S1x1x2048 := Rect.unit (s := S1x1x2048) ![0, 0, 0] S1x1x2048.size inb_S1x1x2048_S1x1x2048_0_0_0
abbrev r3 : Rect S1x1024x1024 := Rect.unit (s := S1x1024x1024) ![0, 0, 0] S1x1024x1024.size inb_S1x1024x1024_S1x1024x1024_0_0_0
abbrev r4 : Rect S1x1x1024 := Rect.unit (s := S1x1x1024) ![0, 0, 0] S1x1x1024.size inb_S1x1x1024_S1x1x1024_0_0_0

/-- The block the body writes at a point below the word, from its input blocks. -/
def mact (x0 : Vec F S256x1024 .f32) (x1 : Vec F S1x1024x2048 .bf16) (x2 : Vec F S1x1x2048 .f32) (x3 : Vec F S1x1024x1024 .bf16) (x4 : Vec F S1x1x1024 .f32) : Vec F S256x1024 .f32 :=
  View.canon [⟨r0, k1_pay1 (k1_pay3 (View.ld x0 r0) (View.ld x1 r1) (View.ld x2 r2)) (k1_pay4 (View.ld x3 r3)) (View.ld x4 r4)⟩]

/-- The block it writes at the others. -/
def mzero : Vec F S256x1024 .f32 := View.canon [⟨r0, k1_pay2⟩]

/-- The output's buffer after the body at point `i`. -/
def mout (v : BitVec 32) (i : grid1.Coords) (x0 : Vec F S256x1024 .f32) (x1 : Vec F S1x1024x2048 .bf16) (x2 : Vec F S1x1x2048 .f32) (x3 : Vec F S1x1024x1024 .bf16) (x4 : Vec F S1x1x1024 .f32) : Vec F S256x1024 .f32 :=
  if k1_cond1 i v = 1#1 then mact x0 x1 x2 x3 x4 else mzero

/-- One write covers the buffer. -/
theorem mcover (p : Vec F S256x1024 .f32) (y : S256x1024.Idx) : ∃ pc ∈ ([⟨r0, p⟩] : List (View.Piece (Elt F) S256x1024 .f32)), y ∈ pc.1.set :=
  View.cover_of_tiled [⟨r0, p⟩] S256x1024.size (by rfl) y

set_option maxHeartbeats 1000000 in
/-- The body from its inputs' buffers at `x0` … `x4` and the second table at `T` leaves them so and the output's at `mout` of them. -/
theorem moe_triple (c : Dev nD) (E : Set ℕ) (i : grid1.Coords)
    (arg1 : Memref sig .tc .smem S600 .i32) (harg1 : arg1.IsWhole) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole)
    (x0 : Vec F S256x1024 .f32) (x1 : Vec F S1x1024x2048 .bf16) (x2 : Vec F S1x1x2048 .f32) (x3 : Vec F S1x1024x1024 .bf16) (x4 : Vec F S1x1x1024 .f32)
    (T : pre1.Contents (Elt F)) (K : PUnit → sProp 𝕄) :
    iprop((((c : Thread nD τ).loc main_v23) ↦{fullShare} T 1) ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
        ∗ (iprop((((c : Thread nD τ).loc main_v23) ↦{fullShare} T 1) ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare (mout (T.at 1 (Rect.unit (s := S1) ![0] S1.size inb_S1_S1_0) numel1_S1) i x0 x1 x2 x3 x4)) -∗ K ⟨⟩))
      ⊢ wp frame (wpE (defs₀ (F := F)) Variants.none c none) E
        (cc1_moe i arg1 harg1 (Memref.whole main_v23) (Memref.isWhole_whole _) arg3 harg3 arg4 harg4 arg5 harg5 arg6 harg6 arg7 harg7 arg8 harg8) K := by
  simp only [cc1_moe_eq_skeleton]; unfold cc1_moe_skel
  simp only [k1_part1_eq_skeleton]
  unfold owns
  iintro ⟨HT, ⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  simp only [smemLoad, smemLoadElt, Prog.lift, Prog.bind_op, Prog.bind_ret, Prog.pure_eq_ret, Prog.bind_assoc]
  iapply (show ((((c : Thread nD τ).loc main_v23) ↦{fullShare} T 1) : sProp 𝕄) ⊢ _ from
    wp_load_rect Variants.none (c : Thread nD τ) none E (m := Memref.whole main_v23)
      (r := Rect.unit (s := S1) ![0] S1.size inb_S1_S1_0) (S := Finset.univ) (q := fullShare) (f := T 1) (Finset.subset_univ _)) $$ HT
  iintro HT
  generalize hv : View.read (Elt F) ((Memref.whole main_v23).access (Rect.unit (s := S1) ![0] S1.size inb_S1_S1_0)) (T 1) (Shape.Idx.first _) = v
  by_cases h : k1_cond1 i v = 1#1
  · simp only [dif_pos h, dif_neg (not_cond2_of h)]
    sl_exec
    sl_step
    iapply Hk
    isplitl [HT]; · iexact HT
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    refine (View.read_writes_eq_canon _ _ _ (mcover _)).trans ?_
    rw [show T.at 1 (Rect.unit (s := S1) ![0] S1.size inb_S1_S1_0) numel1_S1 = v from hv, mout, if_pos h]; rfl
  · simp only [dif_neg h, dif_pos (cond2_of_not h)]
    sl_exec
    sl_step
    iapply Hk
    isplitl [HT]; · iexact HT
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    refine (View.read_writes_eq_canon _ _ _ (mcover _)).trans ?_
    rw [show T.at 1 (Rect.unit (s := S1) ![0] S1.size inb_S1_S1_0) numel1_S1 = v from hv, mout, if_neg h]; rfl

/-- The call's proof data: the arrays at `W`; the inputs' buffers at their blocks and the output's at `mout` of them; the
tables held beside the rest. -/
def mdat (c : Dev nD) : Dat τ (Elt F) Unit ℕ (UR sig nD τ) ℕ (cfg1 a) c where
  A w := W c (Proc.devRef .tc (Pipeline.arrRef spec1 w))
  after w t := match w with
    | ⟨0, _⟩ => mblk a W c 0 t
    | ⟨1, _⟩ => mblk a W c 1 t
    | ⟨2, _⟩ => mblk a W c 2 t
    | ⟨3, _⟩ => mblk a W c 3 t
    | ⟨4, _⟩ => mblk a W c 4 t
    | ⟨5, _⟩ => mout (nuw a) (grid1.coords t) (mblk a W c 0 t) (mblk a W c 1 t) (mblk a W c 2 t) (mblk a W c 3 t) (mblk a W c 4 t)
  Φ _ := iprop(Pipeline.ΦA spec1 c ∗ Pipeline.prefHeld pre1 c (fun _ => fullShare) a.1)
  q _ := fullShare
  owed _ := 0

theorem m_A (c : Dev nD) (w : Fin (cfg1 a).W) : (mdat a W c).A w = W c (Proc.devRef .tc (Pipeline.arrRef spec1 w)) := by dsimp only [mdat]
theorem m_after0 (c : Dev nD) (t : Fin (cfg1 a).N) : (mdat a W c).after 0 t = mblk a W c 0 t := rfl
theorem m_after1 (c : Dev nD) (t : Fin (cfg1 a).N) : (mdat a W c).after 1 t = mblk a W c 1 t := rfl
theorem m_after2 (c : Dev nD) (t : Fin (cfg1 a).N) : (mdat a W c).after 2 t = mblk a W c 2 t := rfl
theorem m_after3 (c : Dev nD) (t : Fin (cfg1 a).N) : (mdat a W c).after 3 t = mblk a W c 3 t := rfl
theorem m_after4 (c : Dev nD) (t : Fin (cfg1 a).N) : (mdat a W c).after 4 t = mblk a W c 4 t := rfl
theorem m_after5 (c : Dev nD) (t : Fin (cfg1 a).N) :
    (mdat a W c).after 5 t = mout (nuw a) (grid1.coords t) (mblk a W c 0 t) (mblk a W c 1 t) (mblk a W c 2 t) (mblk a W c 3 t) (mblk a W c 4 t) := rfl

/-- The body as the pipeline calls it at point `t`. -/
abbrev mbody (t : Fin (cfg1 a).N) : Prog (TpuEff nD τ sig (Elt F) Λ₀ .tc) PUnit :=
  cc1_moe (grid1.coords t) (Memref.whole main_v19) (Memref.isWhole_whole _) (Memref.whole main_v23) (Memref.isWhole_whole _)
    ((spec1 0).stage ((cfg1 a).slots t 0)) (hstage1_0 (((cfg1 a).slots t 0).cast nbuf1_0)) ((spec1 1).stage ((cfg1 a).slots t 1)) (hstage1_1 (((cfg1 a).slots t 1).cast nbuf1_1)) ((spec1 2).stage ((cfg1 a).slots t 2)) (hstage1_2 (((cfg1 a).slots t 2).cast nbuf1_2)) ((spec1 3).stage ((cfg1 a).slots t 3)) (hstage1_3 (((cfg1 a).slots t 3).cast nbuf1_3)) ((spec1 4).stage ((cfg1 a).slots t 4)) (hstage1_4 (((cfg1 a).slots t 4).cast nbuf1_4)) ((spec1 5).stage ((cfg1 a).slots t 5)) (hstage1_5 (((cfg1 a).slots t 5).cast nbuf1_5))

abbrev mst (w : Fin (cfg1 a).W) (t : Fin (cfg1 a).N) := ((cfg1 a).win w).stage ((cfg1 a).slots t w)

theorem prefHeld_two (c : Dev nD) : (Pipeline.prefHeld pre1 c (fun _ => fullShare) a.1 : sProp 𝕄)
    = iprop((((c : Thread nD τ).loc main_v19) ↦{fullShare} a.1 0) ∗ (((c : Thread nD τ).loc main_v23) ↦{fullShare} a.1 1)) :=
  bigSep_univ_eq_bigSepL [(0 : Fin 2), (1 : Fin 2)] (by decide) (by decide) _

/-- The body at a grid point, from the buffers as it finds them to the buffers as the proof data say. -/
theorem moe_body (c : Dev nD) (t : Fin (cfg1 a).N) :
    iprop((mdat a W c).Φ t.castSucc ∗ (mdat a W c).owesAt () t.castSucc
      ∗ (∃ d, owns (c : Thread nD τ) (mst a 0 t) fullShare ((mdat a W c).before 0 t d)) ∗ (∃ d, owns (c : Thread nD τ) (mst a 1 t) fullShare ((mdat a W c).before 1 t d)) ∗ (∃ d, owns (c : Thread nD τ) (mst a 2 t) fullShare ((mdat a W c).before 2 t d)) ∗ (∃ d, owns (c : Thread nD τ) (mst a 3 t) fullShare ((mdat a W c).before 3 t d)) ∗ (∃ d, owns (c : Thread nD τ) (mst a 4 t) fullShare ((mdat a W c).before 4 t d)) ∗ (∃ d, owns (c : Thread nD τ) (mst a 5 t) fullShare ((mdat a W c).before 5 t d)))
      ⊢ wp frame (wpE (defs₀ (F := F)) Variants.none c none) Set.univ (mbody a t) (fun _ =>
        iprop((mdat a W c).Φ t.succ ∗ (mdat a W c).owesAt () t.succ
          ∗ owns (c : Thread nD τ) (mst a 0 t) fullShare ((mdat a W c).after 0 t) ∗ owns (c : Thread nD τ) (mst a 1 t) fullShare ((mdat a W c).after 1 t) ∗ owns (c : Thread nD τ) (mst a 2 t) fullShare ((mdat a W c).after 2 t) ∗ owns (c : Thread nD τ) (mst a 3 t) fullShare ((mdat a W c).after 3 t) ∗ owns (c : Thread nD τ) (mst a 4 t) fullShare ((mdat a W c).after 4 t) ∗ owns (c : Thread nD τ) (mst a 5 t) fullShare ((mdat a W c).after 5 t))) := by
  unfold mbody
  simp only [m_before0 a W (mdat a W c) (m_A a W c 0) (m_after0 a W c), m_before1 a W (mdat a W c) (m_A a W c 1) (m_after1 a W c), m_before2 a W (mdat a W c) (m_A a W c 2) (m_after2 a W c), m_before3 a W (mdat a W c) (m_A a W c 3) (m_after3 a W c), m_before4 a W (mdat a W c) (m_A a W c 4) (m_after4 a W c)]
  rw [show (mdat a W c).Φ t.succ = (mdat a W c).Φ t.castSucc from rfl,
    show (mdat a W c).owesAt () t.succ = (mdat a W c).owesAt () t.castSucc from rfl, m_after0, m_after1, m_after2, m_after3, m_after4, m_after5,
    show (mdat a W c).Φ t.castSucc = iprop(Pipeline.ΦA spec1 c ∗ Pipeline.prefHeld pre1 c (fun _ => fullShare) a.1) from rfl, prefHeld_two]
  iintro ⟨⟨HΦ, HT0, HT1⟩, Ho, ⟨%d0, H0⟩, ⟨%d1, H1⟩, ⟨%d2, H2⟩, ⟨%d3, H3⟩, ⟨%d4, H4⟩, ⟨%d5, H5⟩⟩
  iapply (moe_triple c Set.univ (grid1.coords t) _ _ _ _ _ _ _ _ _ _ _ _ _ _ (mblk a W c 0 t) (mblk a W c 1 t) (mblk a W c 2 t) (mblk a W c 3 t) (mblk a W c 4 t) a.1 _)
  isplitl [HT1]; · iexact HT1
  isplitl [H0]; · iexact H0
  isplitl [H1]; · iexact H1
  isplitl [H2]; · iexact H2
  isplitl [H3]; · iexact H3
  isplitl [H4]; · iexact H4
  isplitl [H5]; · iexists _; iexact H5
  iintro ⟨HT1, H0, H1, H2, H3, H4, H5⟩
  isplitl [HΦ HT0 HT1]
  · isplitl [HΦ]; · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

theorem moe_row (t : Fin (cfg1 a).N) : defs₀ (F := F) .tc (cfg1 a).body ((cfg1 a).bodyArgs t ((cfg1 a).slots t)) = mbody a t := by
  unfold defs₀; rw [Defs.onTc_tc]

/-- Where every point writes every output's buffer, the obligation is the body's triple with each buffer left as the proof data say. -/
theorem obligation_of_live {cfg : Cfg sig Λ₀} {c : Dev nD} (dat : Dat τ (Elt F) Unit ℕ (UR sig nD τ) ℕ cfg c)
    (hi : ∀ w i, cfg.idle w i = false)
    (h : ∀ t : Fin cfg.N, iprop(dat.Φ t.castSucc ∗ dat.owesAt () t.castSucc
        ∗ bigSep Finset.univ fun w => iprop(∃ d, owns (c : Thread nD τ) ((cfg.win w).stage (cfg.slots t w)) fullShare (dat.before w t d)))
      ⊢ wp frame (wpE (defs₀ (F := F)) Variants.none c none) Set.univ (defs₀ (F := F) .tc cfg.body (cfg.bodyArgs t (cfg.slots t))) fun _ =>
          iprop(dat.Φ t.succ ∗ dat.owesAt () t.succ
            ∗ bigSep Finset.univ fun w => owns (c : Thread nD τ) ((cfg.win w).stage (cfg.slots t w)) fullShare (dat.after w t))) :
    BodyObligation dat (defs₀ (F := F)) Variants.none () Set.univ := fun t => by
  simp only [hi]
  exact h t

theorem moe_obligation (c : Dev nD) : BodyObligation (mdat a W c) (defs₀ (F := F)) Variants.none () Set.univ :=
  obligation_of_live (mdat a W c) (fun w i => idle_false a.1 w i) fun t => by
    rw [bigSep_W1, bigSep_W1, moe_row]
    exact moe_body a W c t

end Cert.KernelIdeal.Moe

end
-- ==== Proof.Run.lean ====
module

public import proofs.«01_k».proof.Proof.PrepBody
public import proofs.«01_k».proof.Proof.MoeBody
public import Idealize.ShloMosaic.Lib.Pipeline.RegionArraysTS

@[expose] public section

/-! The program's run: the host operations before the two calls, each call from its body's triple, and what every final
state holds, for tables that are admissible. -/

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the first call leaves in its arrays. -/
def outs0 : Outs (F := F) := fun _ r c => Pipeline.afterRegion (pdat (V15 m) c) (V15 m c) (Proc.devRef .tc r)

variable (a1 : (pcfg1 (F := F)).Adm)

/-- What the two calls leave in their arrays. -/
def outs1 : Outs (F := F) := fun
  | 18, r, c => Pipeline.afterRegion (mdat a1 (V17 m (outs0 m)) c) (V17 m (outs0 m) c) (Proc.devRef .tc r)
  | _, r, c => outs0 m 0 r c

theorem V17_outs1 : V17 m (outs1 m a1) = V17 m (outs0 m) := rfl

/-- The tables the two calls run at: the first has none. -/
abbrev adm : (p : Fin 2) → (pcfgs (F := F) p).Adm := fun
  | ⟨0, _⟩ => cfg0.toPCfg_adm
  | ⟨1, _⟩ => a1

/-- The two calls' proof data. -/
abbrev dats : (p : Fin 2) → (c : Dev nD) → Dat τ (Elt F) Unit ℕ (UR sig nD τ) ℕ (Pipeline.pin (pcfgs (F := F)) (adm a1) p) c := fun
  | ⟨0, _⟩ => fun c => pdat (V15 m) c
  | ⟨1, _⟩ => fun c => mdat a1 (V17 m (outs0 m)) c

/-- Levels: the TensorCore's cells have one, nothing is owed. -/
def lvl : GSem nD τ sig → Finset Unit := fun g => if g.1.2 = .tc then {()} else ∅
theorem lvl_off (g : GSem nD τ sig) (h : g.1.2 ≠ .tc) : lvl g = ∅ := if_neg h

theorem cut (p : Fin 2) : Pipeline.LevelCut (pcfgs (F := F)) (adm a1) () lvl (fun _ _ => 0) p (fun _ => 0) (fun _ => (0 : ℕ)) where
  hι c w s := by show () ∈ (if _ then _ else _); rw [if_pos rfl]; exact Finset.mem_singleton.mpr rfl
  hιb _ _ _ := le_refl _
  hD c g i h := absurd h (lt_irrefl _)

/-- What a core holds beside the buffers between two segments: it owes nothing, and the generator register. -/
abbrev side (c : Dev nD) : sProp 𝕄 := iprop((∃ Wd, owes (c : Thread nD τ) (0 : CellTallies nD τ sig Unit) Wd) ∗ (∃ r, prngReg c r) ∗ emp)

set_option backward.isDefEq.respectTransparency.types false in
def R0 : Pipeline.RegionSeg (pcfgs (F := F)) (adm a1) (dats m a1) () defs₀ Variants.none lvl (fun _ _ => 0) 0 :=
  Pipeline.RegionSeg.ofHeldIn (pcfgs (F := F)) (adm a1) (dats m a1) () defs₀ Variants.none lvl (fun _ _ => 0) 0 (fun _ => 0)
    (Pipeline.ucRefs τ sig) (fun c => iprop(∃ r, prngReg c r)) (fun c => iprop(∃ r, prngReg c r)) launch0 rfl
    (fun c => (prep_obligation (V15 m) c).loose) (fun _ _ => rfl) (fun _ => rfl) (fun c => (dats m a1 0 c).share_full fun _ => rfl)
    (fun _ => .rfl) (fun _ => .rfl) (fun _ => 0) (cut a1 0) (fun _ => iprop(emp)) (V15 m) (fun _ _ => rfl)

variable (hT : ∀ (c : Dev nD) (k : Fin 2), a1.1 k = V17 m (outs0 m) c (Proc.devRef .tc (pre1.ref k)))

set_option backward.isDefEq.respectTransparency.types false in
def R1 : Pipeline.RegionSeg (pcfgs (F := F)) (adm a1) (dats m a1) () defs₀ Variants.none lvl (fun _ _ => 0) 1 :=
  Pipeline.RegionSeg.ofHeldInT (pcfgs (F := F)) (adm a1) (dats m a1) () defs₀ Variants.none lvl (fun _ _ => 0) 1 (fun _ => 0)
    (Pipeline.ucRefs τ sig) (fun c => iprop(∃ r, prngReg c r)) (fun c => iprop(∃ r, prngReg c r)) launch1
    (fun c => (moe_obligation a1 (V17 m (outs0 m)) c).loose) (fun _ _ => rfl) (fun _ => rfl) (fun c => (dats m a1 1 c).share_full fun _ => rfl)
    (fun _ => .rfl) (fun _ => .rfl) (fun _ => 0) (cut a1 1) (fun _ => iprop(emp)) (V17 m (outs0 m)) (fun _ _ => rfl) hT

/-- A TensorCore's buffer, by its name. -/
theorem ref_of_mem (b : DevRef τ sig) (h : b ∈ Pipeline.ucRefs τ sig) : ∃ r : Ref sig .tc, b = Proc.devRef .tc r := by
  obtain ⟨r, -, e⟩ := Finset.mem_map.mp (Finset.mem_filter.mp h).1
  exact ⟨r, e.symm⟩

theorem after0 (c : Dev nD) (b : DevRef τ sig) (hb : b ∈ Pipeline.ucRefs τ sig) :
    Pipeline.afterRegion (pdat (V15 m) c) (V15 m c) b = V16 m (outs1 m a1) c b := by
  obtain ⟨r, rfl⟩ := ref_of_mem b hb
  by_cases h : r = main_v40
  · subst h; exact (Function.update_self (β := fun b : DevRef τ sig => b.ty.Contents (Elt F)) _ _ _).symm
  · refine (Pipeline.afterRegion_keeps (pdat (V15 m) c) (V15 m c) (launch0 (F := F)).win.arr_inj (fun _ => rfl) r fun w e => ?_).trans
      (V16_of m (outs1 m a1) c r (by simpa using h)).symm
    match w with
    | 0 => rfl
    | 1 => rfl
    | 2 => exact absurd e.symm h

theorem after1 (c : Dev nD) (b : DevRef τ sig) (hb : b ∈ Pipeline.ucRefs τ sig) :
    Pipeline.afterRegion (mdat a1 (V17 m (outs0 m)) c) (V17 m (outs0 m) c) b = V18 m (outs1 m a1) c b := by
  obtain ⟨r, rfl⟩ := ref_of_mem b hb
  by_cases h : r = main_v49
  · subst h; exact (Function.update_self (β := fun b : DevRef τ sig => b.ty.Contents (Elt F)) _ _ _).symm
  · refine (Pipeline.afterRegion_keeps (mdat a1 (V17 m (outs0 m)) c) (V17 m (outs0 m) c) (launch1 (F := F)).win.arr_inj (fun _ => rfl) r fun w e => ?_).trans
      (V18_of m (outs1 m a1) c r (by simpa using h)).symm
    match w with
    | 0 => rfl
    | 1 => rfl
    | 2 => rfl
    | 3 => rfl
    | 4 => rfl
    | 5 => exact absurd e.symm h

theorem arrs0 : Pipeline.arrRefs (τ := τ) (pcfgs (F := F) 0).spec ⊆ Pipeline.ucRefs τ sig := Pipeline.arrRefs_sub_ucRefs spec0 (by decide)
theorem arrs1 : Pipeline.arrRefs (τ := τ) (pcfgs (F := F) 1).spec ⊆ Pipeline.ucRefs τ sig := Pipeline.arrRefs_sub_ucRefs spec1 (by decide)
theorem tbls1 : Pipeline.tblRefs (τ := τ) (pcfgs (F := F) 1).pre ⊆ Pipeline.ucRefs τ sig := Pipeline.tblRefs_sub_ucRefs pre1 (by decide)

/-- What rides between the segments. -/
abbrev rideE : Fin 3 → Dev nD → sProp 𝕄 := fun _ c => side c

set_option backward.isDefEq.respectTransparency.types false in
theorem hpre0 (c : Dev nD) : iprop(StableHlo.held (c : Thread nD τ) (Pipeline.ucRefs τ sig) (V15 m c) ∗ rideE (F := F) 0 c) ⊢ (R0 m a1).pre c := by
  unfold R0
  exact Pipeline.RegionSeg.ofHeldIn_pre (pcs := pcfgs (F := F)) (a := adm a1) (pdats := dats m a1) (ι := ()) (defs₀ := defs₀ (F := F)) (𝒱₀ := Variants.none) (L := lvl) (lv := fun _ _ => 0) (D := fun _ => 0) (p := 0) (W := V15 m) (X := fun c => iprop(∃ r, prngReg c r)) (R := fun _ => iprop(emp)) arrs0 c

set_option backward.isDefEq.respectTransparency.types false in
theorem hpost0 (c : Dev nD) : (R0 m a1).post c ⊢ iprop(StableHlo.held (c : Thread nD τ) (Pipeline.ucRefs τ sig) (V16 m (outs1 m a1) c) ∗ rideE (F := F) 1 c) := by
  rw [← StableHlo.held_congr (c : Thread nD τ) (after0 m a1 c)]
  unfold R0
  exact Pipeline.RegionSeg.ofHeldIn_post (pcs := pcfgs (F := F)) (a := adm a1) (pdats := dats m a1) (ι := ()) (defs₀ := defs₀ (F := F)) (𝒱₀ := Variants.none) (L := lvl) (lv := fun _ _ => 0) (D := fun _ => 0) (p := 0) (W := V15 m) (X := fun c => iprop(∃ r, prngReg c r)) (R := fun _ => iprop(emp)) arrs0 c

set_option backward.isDefEq.respectTransparency.types false in
theorem hpre1 (c : Dev nD) : iprop(StableHlo.held (c : Thread nD τ) (Pipeline.ucRefs τ sig) (V17 m (outs1 m a1) c) ∗ rideE (F := F) 1 c) ⊢ (R1 m a1 hT).pre c := by
  unfold R1
  exact Pipeline.RegionSeg.ofHeldInT_pre (pcs := pcfgs (F := F)) (a := adm a1) (pdats := dats m a1) (ι := ()) (defs₀ := defs₀ (F := F)) (𝒱₀ := Variants.none) (L := lvl) (lv := fun _ _ => 0) (D := fun _ => 0) (p := 1) (W := V17 m (outs0 m)) (X := fun c => iprop(∃ r, prngReg c r)) (R := fun _ => iprop(emp)) arrs1 tbls1 c

set_option backward.isDefEq.respectTransparency.types false in
theorem hpost1 (c : Dev nD) : (R1 m a1 hT).post c ⊢ iprop(StableHlo.held (c : Thread nD τ) (Pipeline.ucRefs τ sig) (V18 m (outs1 m a1) c) ∗ rideE (F := F) 2 c) := by
  rw [← StableHlo.held_congr (c : Thread nD τ) (after1 m a1 c)]
  unfold R1
  exact Pipeline.RegionSeg.ofHeldInT_post (pcs := pcfgs (F := F)) (a := adm a1) (pdats := dats m a1) (ι := ()) (defs₀ := defs₀ (F := F)) (𝒱₀ := Variants.none) (L := lvl) (lv := fun _ _ => 0) (D := fun _ => 0) (p := 1) (W := V17 m (outs0 m)) (X := fun c => iprop(∃ r, prngReg c r)) (R := fun _ => iprop(emp)) arrs1 tbls1 c

include hT in
set_option maxHeartbeats 1000000 in
set_option backward.isDefEq.respectTransparency.types false in
/-- From any memory with zero counters every weakly fair execution terminates, with the result array as the second call's
proof data say, every argument as launched and every counter zero. -/
theorem run_at (ρ : Dev nD → PrngReg) :
    θ_run defs (onTc (τ := τ) (main (F := F))) ⟨m, fun _ => 0, ρ⟩ (fun r => (∀ c : Dev nD,
      r.2.mem ((c.tc : Thread nD τ).loc main_v49) = Pipeline.afterRegion (mdat a1 (V17 m (outs0 m)) c) (V17 m (outs0 m) c) (Proc.devRef .tc main_v49)
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) ∧ r.2.sem = fun _ => 0) := by
  refine Pipeline.θ_run_regions_kit_dev_sems (pcfgs (F := F)) (adm a1) (dats m a1) () (cellOf_inj (adm a1)) emb₁ defs₀ Variants.none lvl (fun _ _ => 0) m ρ main
    (segs m (outs1 m a1) Variants.none lvl (fun _ _ => 0) rideE () (adm a1) (dats m a1) (R0 m a1) (R1 m a1 hT))
    (fun c Q => by
      rewrite [main_chain c, Pipeline.Seg.run_eq_chain,
        show (segs m (outs1 m a1) Variants.none lvl (fun _ _ => 0) rideE () (adm a1) (dats m a1) (R0 m a1) (R1 m a1 hT) c).map Pipeline.Seg.prog = [
          StableHlo.seq hostOps0, StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8, StableHlo.seq hostOps0_9,
          StableHlo.seq hostOps0_10, StableHlo.seq hostOps0_11, StableHlo.seq hostOps0_12, StableHlo.seq hostOps0_13, StableHlo.seq hostOps0_14,
          Prog.lift (.customCall (Pipeline.entry 0) ()), StableHlo.seq hostOps1, Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide) 0 lvl_off (fun _ => iprop(emp))
    (initOf (Pipeline.cells (Pipeline.pin (pcfgs (F := F)) (adm a1)) (cellOf_inj (adm a1))) (Pipeline.launchToks (Pipeline.pin (pcfgs (F := F)) (adm a1)) (cellOf_inj (adm a1))))
    (by
      iintro Hu; imodintro
      isplitl [Hu]
      · iapply (show (ownU _ : sProp 𝕄) ⊢ BI.own (emb₁ (initOf (Pipeline.cells (Pipeline.pin (pcfgs (F := F)) (adm a1)) (cellOf_inj (adm a1))) (Pipeline.launchToks (Pipeline.pin (pcfgs (F := F)) (adm a1)) (cellOf_inj (adm a1))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rideE (F := F) 0 c))
    (Tₙ := fun c => StableHlo.held (c : Thread nD τ) (Pipeline.ucRefs τ sig) (V18 m (outs1 m a1) c))
    (hch := fun c => ⟨.rfl, .rfl, .rfl, .rfl, .rfl, .rfl, .rfl, .rfl, .rfl, .rfl, .rfl, .rfl, .rfl, .rfl, .rfl, hpre0 m a1 c, hpost0 m a1 c, hpre1 m a1 hT c,
      (hpost1 m a1 hT c).trans (by iintro ⟨Hh, HO, -⟩; isplitl [Hh]; · iexact Hh
                                   iexact HO)⟩)
    (hinit := ?_)
    (QY := fun c s => s.mem ((c.tc : Thread nD τ).loc main_v49) = Pipeline.afterRegion (mdat a1 (V17 m (outs0 m)) c) (V17 m (outs0 m) c) (Proc.devRef .tc main_v49)
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  · refine Pipeline.initEach lvl (fun _ _ => 0) fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (V18 m (outs1 m a1) c) s') $$ [Hh HSI]
    · isplitl [Hh] <;> iassumption
    icases Hr with ⟨%h, HSI⟩
    imodintro
    isplitr
    · ipureintro
      have hm : (Proc.devRef .tc main_v49 : DevRef τ sig) ∈ Pipeline.ucRefs τ sig := Finset.mem_filter.mpr ⟨StableHlo.devRef_mem_tcRefs main_v49, by decide⟩
      exact ⟨(h (Proc.devRef .tc main_v49) hm).trans (after1 m a1 c _ hm).symm,
        (h (Proc.devRef .tc main_arg0) (Finset.mem_filter.mpr ⟨StableHlo.devRef_mem_tcRefs main_arg0, by decide⟩)).trans (V18_main_arg0 m (outs1 m a1) c),
        (h (Proc.devRef .tc main_arg1) (Finset.mem_filter.mpr ⟨StableHlo.devRef_mem_tcRefs main_arg1, by decide⟩)).trans (V18_main_arg1 m (outs1 m a1) c),
        (h (Proc.devRef .tc main_arg2) (Finset.mem_filter.mpr ⟨StableHlo.devRef_mem_tcRefs main_arg2, by decide⟩)).trans (V18_main_arg2 m (outs1 m a1) c),
        (h (Proc.devRef .tc main_arg3) (Finset.mem_filter.mpr ⟨StableHlo.devRef_mem_tcRefs main_arg3, by decide⟩)).trans (V18_main_arg3 m (outs1 m a1) c),
        (h (Proc.devRef .tc main_arg4) (Finset.mem_filter.mpr ⟨StableHlo.devRef_mem_tcRefs main_arg4, by decide⟩)).trans (V18_main_arg4 m (outs1 m a1) c),
        (h (Proc.devRef .tc main_arg5) (Finset.mem_filter.mpr ⟨StableHlo.devRef_mem_tcRefs main_arg5, by decide⟩)).trans (V18_main_arg5 m (outs1 m a1) c)⟩
    · iexact HSI

end Cert.KernelIdeal.Moe

end
-- ==== Proof.Tables.lean ====
module

public import proofs.«01_k».proof.Proof.Gen.KernelIdeal.Regions
public import proofs.«01_k».proof.Proof.Gen.ReferenceIdeal.Read

@[expose] public section

/-! The two tables the second call is given, as the host operations compute them: the reference's own. -/

set_option maxRecDepth 16384

noncomputable section

namespace Cert.KernelIdeal.Moe

open Cert.KernelIdeal.Gen
open Idealize.ShloMosaic Idealize.ShloMosaic.TcCoe Idealize.ShloMosaic.StableHlo
open Idealize.SL Idealize.SL.Sem

variable {F : FTy → Type} [FloatOps F]

/-- The segment lengths' type. -/
abbrev Seg (F : FTy → Type) : Type := (⟨S32, .i32⟩ : BufTy).Contents (Elt F)

variable (σ : Valuation τ sig (Elt F)) (x1 : Seg F)

theorem s0_v3 (h : σ main_arg1 = x1) : after hostOps0 σ main_v3 = Cert.ReferenceIdeal.Read.val_main_v3 (F := F) x1 := by
  subst h; simp only [hostOps0]; after_results_simp <;> rfl
theorem s0_c1 : after hostOps0 σ main_c_1 = constantI S_ 32 256#32 := by
  simp only [hostOps0]; after_results_simp <;> rfl

theorem s1_v4 (h : σ main_v3 = Cert.ReferenceIdeal.Read.val_main_v3 (F := F) x1) (hc : σ main_c_1 = constantI S_ 32 256#32) :
    after hostOps0_1 σ main_v4 = Cert.ReferenceIdeal.Read.val_main_v4 (F := F) x1 := by
  simp only [hostOps0_1, TRef.binary, TRef.nullary, TRef.ternary, TRef.unary, TRef.toBuf, TRef.ofBuf, cast_eq]
  after_results_simp
  simp only [h, hc]; rfl

theorem s2_v6 (h : σ main_v4 = Cert.ReferenceIdeal.Read.val_main_v4 (F := F) x1) : after hostOps0_2 σ main_v6 = Cert.ReferenceIdeal.Read.val_main_v6 (F := F) x1 := by
  simp only [hostOps0_2]; after_results_simp; simp only [h]; rfl

theorem s3_v7 (h : σ main_v6 = Cert.ReferenceIdeal.Read.val_main_v6 (F := F) x1) : after hostOps0_3 σ main_v7 = Cert.ReferenceIdeal.Read.val_main_v7 (F := F) x1 := by
  simp only [hostOps0_3, TRef.binary, TRef.nullary, TRef.ternary, TRef.unary, TRef.toBuf, TRef.ofBuf, cast_eq]
  after_results_simp
  simp only [h]; rfl

theorem s4_v19 (h : σ main_v7 = Cert.ReferenceIdeal.Read.val_main_v7 (F := F) x1) : after hostOps0_4 σ main_v19 = Cert.ReferenceIdeal.Read.val_main_v19 (F := F) x1 := by
  simp only [hostOps0_4]; after_results_simp; simp only [h]; rfl
theorem s4_v21 (h : σ main_v7 = Cert.ReferenceIdeal.Read.val_main_v7 (F := F) x1) : after hostOps0_4 σ main_v21 = Cert.ReferenceIdeal.Read.val_main_v80 (F := F) x1 := by
  simp only [hostOps0_4]; after_results_simp; simp only [h]; rfl
theorem s4_c6 : after hostOps0_4 σ main_c_6 = constantI S_ 32 256#32 := by
  simp only [hostOps0_4]; after_results_simp <;> rfl

theorem s5_v22 (h : σ main_v21 = Cert.ReferenceIdeal.Read.val_main_v80 (F := F) x1) (hc : σ main_c_6 = constantI S_ 32 256#32) :
    after hostOps0_5 σ main_v22 = Cert.ReferenceIdeal.Read.val_main_v81 (F := F) x1 := by
  simp only [hostOps0_5, TRef.binary, TRef.nullary, TRef.ternary, TRef.unary, TRef.toBuf, TRef.ofBuf, cast_eq]
  after_results_simp
  simp only [h, hc]; rfl

theorem s6_v23 (h : σ main_v22 = Cert.ReferenceIdeal.Read.val_main_v81 (F := F) x1) :
    after hostOps0_6 σ main_v23 = fun _ => Cert.ReferenceIdeal.Read.val_main_v81 (F := F) x1 (fun a => a.elim0) := by
  simp only [hostOps0_6]; after_results_simp; simp only [h]
  funext i
  generalize Cert.ReferenceIdeal.Read.val_main_v81 (F := F) x1 = y
  show y _ = y _
  congr 1

variable (m : (ℓ : Loc nD τ sig) → Buf (Elt F) ℓ) (outs : Outs (F := F)) (c : Dev nD)

/-- The segment lengths in the memory at launch. -/
abbrev segm : Seg F := m ((c.tc : Thread nD τ).loc main_arg1)

theorem V4_v7 : V4 m c main_v7 = Cert.ReferenceIdeal.Read.val_main_v7 (F := F) (segm m c) :=
  s3_v7 _ _ (s2_v6 _ _ (s1_v4 _ _ (s0_v3 _ _ rfl) (s0_c1 _)))

/-- The first table: each block's expert. -/
theorem V17_v19 : V17 m outs c main_v19 = Cert.ReferenceIdeal.Read.val_main_v19 (F := F) (segm m c) :=
  (V17_of m outs c main_v19 (by decide)).trans <| (V16_of m outs c main_v19 (by decide)).trans <| (V15_of m c main_v19 (by decide)).trans <| (V14_of m c main_v19 (by decide)).trans <| (V13_of m c main_v19 (by decide)).trans <| (V12_of m c main_v19 (by decide)).trans <| (V11_of m c main_v19 (by decide)).trans <| (V10_of m c main_v19 (by decide)).trans <| (V9_of m c main_v19 (by decide)).trans <| (V8_of m c main_v19 (by decide)).trans <| (V7_of m c main_v19 (by decide)).trans <| (V6_of m c main_v19 (by decide)).trans <| s4_v19 _ _ (V4_v7 m c)

/-- The second: the number of blocks in use. -/
theorem V17_v23 : V17 m outs c main_v23 = fun _ => Cert.ReferenceIdeal.Read.val_main_v81 (F := F) (segm m c) (fun a => a.elim0) :=
  (V17_of m outs c main_v23 (by decide)).trans <| (V16_of m outs c main_v23 (by decide)).trans <| (V15_of m c main_v23 (by decide)).trans <| (V14_of m c main_v23 (by decide)).trans <| (V13_of m c main_v23 (by decide)).trans <| (V12_of m c main_v23 (by decide)).trans <| (V11_of m c main_v23 (by decide)).trans <| (V10_of m c main_v23 (by decide)).trans <| (V9_of m c main_v23 (by decide)).trans <| (V8_of m c main_v23 (by decide)).trans <|
    s6_v23 _ _ (s5_v22 _ _ (s4_v21 _ _ (V4_v7 m c)) (s4_c6 _))

end Cert.KernelIdeal.Moe

end
-- ==== Proof.Adm.lean ====
module

public import proofs.«01_k».proof.Proof.Run
public import proofs.«01_k».proof.Proof.Tables

@[expose] public section

/-! The tables are admissible: every block they name lies inside its array. So the run holds without conditions. -/

set_option maxRecDepth 16384

noncomputable section

namespace Cert.KernelIdeal.Moe

open Cert.KernelIdeal.Gen
open Idealize.ShloMosaic Idealize.ShloMosaic.TcCoe Idealize.ShloMosaic.StableHlo
open Idealize.SL Idealize.SL.Sem

variable {F : FTy → Type} [FloatOps F]

/-- A fold of additions of words at most one grows by at most one a step. -/
theorem foldl_le {α : Type} (f : α → BitVec 32) (hf : ∀ n, (f n).toNat ≤ 1) : ∀ (l : List α) (b : BitVec 32),
    (l.foldl (fun r n => IntOp.addi r (f n)) b).toNat ≤ b.toNat + l.length
  | [], b => by simp
  | n :: l, b => by
      refine (foldl_le f hf l _).trans ?_
      have h1 : (IntOp.addi b (f n)).toNat ≤ b.toNat + (f n).toNat := by
        show (b + f n).toNat ≤ _
        rw [BitVec.toNat_add]; exact Nat.mod_le _ _
      have := hf n
      simp only [List.length_cons]; omega

/-- The smaller of a word that is not negative and 31 is at most 31. -/
theorem minsi_31 (b : BitVec 32) (h : b.toNat < 2 ^ 31) : (IntOp.minsi b 31#32).toNat ≤ 31 := by
  unfold IntOp.minsi
  split
  · rename_i hs
    rw [BitVec.slt, decide_eq_true_eq, BitVec.toInt_eq_toNat_of_lt (by omega)] at hs
    have : (31#32).toInt = 31 := by decide
    omega
  · decide

/-- The clamped block: at most the point's own number, -/
theorem clamp_le (i : Nat) (hi : i < 600) (v : BitVec 32) :
    (IntOp.minsi (BitVec.ofNat 32 i) (IntOp.maxsi (v - 1#32) 0#32)).toNat ≤ i := by
  have hn : (BitVec.ofNat 32 i).toNat = i := by rw [BitVec.toNat_ofNat]; exact Nat.mod_eq_of_lt (by omega)
  have hz : (0#32).toInt = 0 := by decide
  have hI : (BitVec.ofNat 32 i).toInt = i := by rw [BitVec.toInt_eq_toNat_of_lt (by omega), hn]
  unfold IntOp.minsi
  split
  · omega
  · rename_i hs
    generalize hw : IntOp.maxsi (v - 1#32) 0#32 = w at hs ⊢
    have h0 : 0 ≤ w.toInt := by
      rw [← hw]; unfold IntOp.maxsi; split
      · rename_i h; rw [BitVec.slt, decide_eq_true_eq] at h; omega
      · omega
    rw [BitVec.slt, decide_eq_true_eq, hI] at hs
    have hc := BitVec.toInt_eq_toNat_cond w
    have := w.isLt
    split at hc <;> omega

/-- and that number itself at a point below the number in use. -/
theorem clamp_eq (i : Nat) (hi : i < 600) (v : BitVec 32) (h : IntOp.cmpi .slt (BitVec.ofNat 32 i) v = 1#1) :
    (IntOp.minsi (BitVec.ofNat 32 i) (IntOp.maxsi (v - 1#32) 0#32)).toNat = i := by
  have hn : (BitVec.ofNat 32 i).toNat = i := by rw [BitVec.toNat_ofNat]; exact Nat.mod_eq_of_lt (by omega)
  have hz : (0#32).toInt = 0 := by decide
  have hI : (BitVec.ofNat 32 i).toInt = i := by rw [BitVec.toInt_eq_toNat_of_lt (by omega), hn]
  have hv : (i : Int) < v.toInt := by
    have h1 : BitVec.ofBool ((BitVec.ofNat 32 i).slt v) = 1#1 := h
    have h' : (BitVec.ofNat 32 i).slt v = true := by
      revert h1; generalize (BitVec.ofNat 32 i).slt v = b; revert b; decide
    rw [BitVec.slt, decide_eq_true_eq, hI] at h'; exact h'
  have hc := BitVec.toInt_eq_toNat_cond v
  have hl := v.isLt
  have hvn : 2 * v.toNat < 2 ^ 32 ∧ i < v.toNat := by split at hc <;> omega
  have hs : (v - 1#32).toNat = v.toNat - 1 := by
    rw [BitVec.toNat_sub]; show (2 ^ 32 - 1 + v.toNat) % 2 ^ 32 = _; omega
  have hsi : (v - 1#32).toInt = (v.toNat - 1 : Nat) := by rw [BitVec.toInt_eq_toNat_of_lt (by omega), hs]
  have hm : (IntOp.maxsi (v - 1#32) 0#32).toNat = v.toNat - 1 ∧ (IntOp.maxsi (v - 1#32) 0#32).toInt = (v.toNat - 1 : Nat) := by
    unfold IntOp.maxsi; split
    · exact ⟨hs, hsi⟩
    · rename_i h0
      rw [BitVec.slt, decide_eq_true_eq, hsi, hz] at h0
      refine ⟨?_, ?_⟩
      · show 0 = _; omega
      · rw [hz]; omega
  unfold IntOp.minsi
  split
  · exact hn
  · rename_i h0
    rw [BitVec.slt, decide_eq_true_eq, hm.2, hI] at h0
    rw [hm.1]; omega

variable (x1 : Seg F)

/-- Each block's expert is one of the 32. -/
theorem be_le (i : S600.Idx) : (Cert.ReferenceIdeal.Read.val_main_v19 (F := F) x1 i).toNat ≤ 31 := by
  rw [Cert.ReferenceIdeal.Read.val_main_v19_apply]
  refine minsi_31 _ ?_
  unfold Cert.ReferenceIdeal.Read.val_main_v17 Host.reduce
  refine lt_of_le_of_lt (foldl_le (fun n => Cert.ReferenceIdeal.Read.val_main_v16 (F := F) x1 (S600x32.rowMajor.symm n)) (fun n => ?_) _ _) ?_
  · show (BitVec.setWidth 32 (Cert.ReferenceIdeal.Read.val_main_v15 (F := F) x1 _)).toNat ≤ 1
    rw [BitVec.toNat_setWidth]
    have := (Cert.ReferenceIdeal.Read.val_main_v15 (F := F) x1 (S600x32.rowMajor.symm n)).isLt
    omega
  · refine lt_of_le_of_lt (Nat.add_le_add_left (List.length_filter_le _ _) _) ?_
    rw [List.length_finRange]
    show 0 + S600x32.numel < _
    decide +kernel

/-- A grid point as an index of the first table. -/
def pt (n : Fin 600) : S600.Idx := fun
  | ⟨0, _⟩ => n

/-- A block's expert. -/
abbrev be (n : Fin 600) : BitVec 32 := Cert.ReferenceIdeal.Read.val_main_v19 (F := F) x1 (pt n)

/-- The number of blocks in use. -/
abbrev nused : BitVec 32 := Cert.ReferenceIdeal.Read.val_main_v81 (F := F) x1 (fun a => a.elim0)

/-- The tables of given contents. -/
def tabsOf (y : (⟨S600, .i32⟩ : BufTy).Contents (Elt F)) (v : BitVec 32) : pre1.Contents (Elt F) := fun
  | 0 => y
  | 1 => fun _ => v
  | ⟨_ + 2, h⟩ => absurd h (Nat.not_lt.2 (Nat.le_add_left _ _))
theorem tabsOf_zero (y : (⟨S600, .i32⟩ : BufTy).Contents (Elt F)) (v : BitVec 32) : tabsOf (F := F) y v 0 = y := rfl
theorem tabsOf_one (y : (⟨S600, .i32⟩ : BufTy).Contents (Elt F)) (v : BitVec 32) : tabsOf (F := F) y v 1 = fun _ => v := rfl

/-- The tables, of the segment lengths. -/
abbrev tabs : pre1.Contents (Elt F) := tabsOf (Cert.ReferenceIdeal.Read.val_main_v19 (F := F) x1) (nused x1)

theorem tabs_one : (tabs x1).at 1 (Rect.unit (s := S1) ![0] S1.size inb_S1_S1_0) numel1_S1 = nused x1 := rfl

theorem tabs_zero (i : grid1.Coords) :
    (tabs x1).at 0 (Rect.unit (s := S600) ![(Scalar.indexCast (BitVec.ofNat 32 (i 0).val) : Index).toNat] S1.size (k1_off1_inb i)) numel1_S1
      = be x1 (i 0) := by
  show Cert.ReferenceIdeal.Read.val_main_v19 (F := F) x1 _ = Cert.ReferenceIdeal.Read.val_main_v19 (F := F) x1 _
  generalize Cert.ReferenceIdeal.Read.val_main_v19 (F := F) x1 = y
  refine congrArg y ?_
  funext a
  match a with
  | ⟨0, _⟩ =>
    have hi : (i 0).val < 600 := (i 0).isLt
    have h : (BitVec.ofNat 32 (i 0).val).toNat = (i 0).val := by
      rw [BitVec.toNat_ofNat]; exact Nat.mod_eq_of_lt (by omega)
    refine Fin.ext ?_
    show (BitVec.ofNat 32 (i 0).val).toNat + 0 * 1 = (i 0).val
    omega

theorem t0_eq (i : grid1.Coords) : cc1_transform_0 inb_S1_S1_0 numel1_S1 (tabs x1) i
    = ![(IntOp.minsi (BitVec.ofNat 32 (i 0).val) (IntOp.maxsi (nused x1 - 1#32) 0#32)).toNat, 0] := rfl
theorem t1_eq (i : grid1.Coords) : cc1_transform_1 k1_off1_inb numel1_S1 (tabs x1) i
    = ![(be x1 (i 0)).toNat, 0, 0] := by rw [← tabs_zero]; rfl
theorem t2_eq (i : grid1.Coords) : cc1_transform_2 k1_off1_inb numel1_S1 (tabs x1) i
    = ![(be x1 (i 0)).toNat, 0, 0] := by rw [← tabs_zero]; rfl
theorem t3_eq (i : grid1.Coords) : cc1_transform_3 k1_off1_inb numel1_S1 (tabs x1) i
    = ![(be x1 (i 0)).toNat, 0, 0] := by rw [← tabs_zero]; rfl
theorem t4_eq (i : grid1.Coords) : cc1_transform_4 k1_off1_inb numel1_S1 (tabs x1) i
    = ![(be x1 (i 0)).toNat, 0, 0] := by rw [← tabs_zero]; rfl

theorem ok_tabs : ok1 (tabs x1) := by
  unfold ok1
  refine ⟨fun i => ⟨fun a => ?_, .inl rfl⟩, fun i => ⟨fun a => ?_, .inr ?_⟩, fun i => ⟨fun a => ?_, .inl rfl⟩, fun i => ⟨fun a => ?_, .inr ?_⟩, fun i => ⟨fun a => ?_, .inl rfl⟩⟩
  · rw [t0_eq]
    have h := clamp_le (i 0).val (i 0).isLt (nused x1)
    have hi : (i 0).val < 600 := (i 0).isLt
    generalize IntOp.minsi (BitVec.ofNat 32 (i 0).val) (IntOp.maxsi (nused x1 - 1#32) 0#32) = w at h ⊢
    fin_cases a
    · show (w.toNat + 1) * 256 ≤ 153600; omega
    · show (0 + 1) * 1024 ≤ 1024; omega
  · rw [t1_eq]; have h : (be x1 (i 0)).toNat ≤ 31 := be_le x1 (pt (i 0))
    generalize be x1 (i 0) = w at h ⊢
    fin_cases a
    · show (w.toNat + 1) * 1 ≤ 32; omega
    · show (0 + 1) * 1024 ≤ 1024; omega
    · show (0 + 1) * 2048 ≤ 2048; omega
  · exact Affine.block_words_dvd (of_decide_eq_true rfl) (by decide)
  · rw [t2_eq]; have h : (be x1 (i 0)).toNat ≤ 31 := be_le x1 (pt (i 0))
    generalize be x1 (i 0) = w at h ⊢
    fin_cases a
    · show (w.toNat + 1) * 1 ≤ 32; omega
    · show (0 + 1) * 1 ≤ 1; omega
    · show (0 + 1) * 2048 ≤ 2048; omega
  · rw [t3_eq]; have h : (be x1 (i 0)).toNat ≤ 31 := be_le x1 (pt (i 0))
    generalize be x1 (i 0) = w at h ⊢
    fin_cases a
    · show (w.toNat + 1) * 1 ≤ 32; omega
    · show (0 + 1) * 1024 ≤ 1024; omega
    · show (0 + 1) * 1024 ≤ 1024; omega
  · exact Affine.block_words_dvd (of_decide_eq_true rfl) (by decide)
  · rw [t4_eq]; have h : (be x1 (i 0)).toNat ≤ 31 := be_le x1 (pt (i 0))
    generalize be x1 (i 0) = w at h ⊢
    fin_cases a
    · show (w.toNat + 1) * 1 ≤ 32; omega
    · show (0 + 1) * 1 ≤ 1; omega
    · show (0 + 1) * 1024 ≤ 1024; omega

/-- The tables the second call runs at. -/
abbrev at1 : (pcfg1 (F := F)).Adm := ⟨tabs x1, ok_tabs x1⟩

variable (m : (ℓ : Loc nD τ sig) → Buf (Elt F) ℓ)

/-- The one device's segment lengths. -/
abbrev seg0 : Seg F := segm m (0 : Dev nD)

theorem tabs_held (c : Dev nD) (k : Fin 2) : (at1 (seg0 m)).1 k = V17 m (outs0 m) c (Proc.devRef .tc (pre1.ref k)) := by
  have hc : c = (0 : Dev nD) := Subsingleton.elim _ _
  subst hc
  match k with
  | 0 =>
    have h := V17_v19 m (outs0 m) 0
    generalize V17 m (outs0 m) 0 = V at h ⊢
    have e : (at1 (seg0 m)).1 = tabsOf (Cert.ReferenceIdeal.Read.val_main_v19 (F := F) (segm m 0)) (nused (seg0 m)) := rfl
    rw [e]
    generalize Cert.ReferenceIdeal.Read.val_main_v19 (F := F) (segm m 0) = y at h ⊢
    generalize nused (seg0 m) = z
    rw [show tabsOf y z 0 = y from rfl]
    exact h.symm
  | 1 =>
    have h : V17 m (outs0 m) 0 main_v23 = fun _ => nused (segm m 0) := V17_v23 m (outs0 m) 0
    generalize V17 m (outs0 m) 0 = V at h ⊢
    have e : (at1 (seg0 m)).1 = tabsOf (Cert.ReferenceIdeal.Read.val_main_v19 (F := F) (segm m 0)) (nused (segm m 0)) := rfl
    rw [e]
    generalize nused (segm m 0) = z at h ⊢
    generalize Cert.ReferenceIdeal.Read.val_main_v19 (F := F) (segm m 0) = y
    rw [show tabsOf y z 1 = (fun _ => z) from rfl]
    exact h.symm

/-- Every run ends with the second call's final array as the result and its arguments unchanged. -/
theorem run_main (ρ : Dev nD → PrngReg) :
    θ_run defs (onTc (τ := τ) (main (F := F))) ⟨m, fun _ => 0, ρ⟩ (fun r => (∀ c : Dev nD,
      r.2.mem ((c.tc : Thread nD τ).loc main_v49) = Pipeline.afterRegion (mdat (at1 (seg0 m)) (V17 m (outs0 m)) c) (V17 m (outs0 m) c) (Proc.devRef .tc main_v49)
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) ∧ r.2.sem = fun _ => 0) :=
  run_at m (at1 (seg0 m)) (tabs_held m) ρ

end Cert.KernelIdeal.Moe

end
-- ==== Proof.Host.lean ====
module

public import proofs.«01_k».proof.Proof.Gen.KernelIdeal.Regions
public import proofs.«01_k».proof.Proof.Run
public import Idealize.ShloMosaic.Lib.Pipeline.ValueKit

@[expose] public section

/-! What the host operations leave in the arrays the two calls read, over extended reals: the permutation matrix, the
biases in the permuted columns' order, and the second layer's weights. -/

set_option maxRecDepth 16384

noncomputable section

namespace Cert.KernelIdeal.Moe

open Cert.KernelIdeal.Gen
open Idealize.ShloMosaic Idealize.ShloMosaic.TcCoe Idealize.ShloMosaic.StableHlo
open Idealize.SL Idealize.SL.Sem

variable (σ : Valuation τ sig (Elt Ideal))

/-- The vector of words whose entry `i` is `f i`. -/
abbrev wv (f : Nat → BitVec 32) : S256.Idx → BitVec 32 := fun i => f (i 0).val

theorem h6_v25 : after hostOps0_6 σ main_v25 = iotaInDim S256 32 0 := by
  simp only [hostOps0_6]; after_results_simp <;> rfl
theorem h6_c7 : after hostOps0_6 σ main_c_7 = constantI S_ 32 2#32 := by
  simp only [hostOps0_6]; after_results_simp <;> rfl

theorem h7_v26 (h : σ main_v25 = iotaInDim S256 32 0) (hc : σ main_c_7 = constantI S_ 32 2#32) :
    after hostOps0_7 σ main_v26 = wv fun i => BitVec.ofNat 32 (i % 2) := by
  simp only [hostOps0_7, TRef.binary, TRef.nullary, TRef.ternary, TRef.unary, TRef.toBuf, TRef.ofBuf, cast_eq]
  after_results_simp
  simp only [h, hc]
  funext i
  obtain ⟨n, rfl⟩ : ∃ n : Fin 256, i = Idealize.ShloMosaic.ix1 n := ⟨i 0, Idealize.ShloMosaic.eq_ix1 i⟩
  show @Eq (BitVec 32) _ _
  revert n
  decide +kernel

theorem h8_v28 (h : σ main_v26 = wv fun i => BitVec.ofNat 32 (i % 2)) :
    after hostOps0_8 σ main_v28 = fun i : S256.Idx => IntOp.cmpi .eq (BitVec.ofNat 32 ((i 0).val % 2)) 0#32 := by
  simp only [hostOps0_8, TRef.binary, TRef.nullary, TRef.ternary, TRef.unary, TRef.toBuf, TRef.ofBuf, cast_eq]
  after_results_simp
  simp only [h]
  funext i
  obtain ⟨n, rfl⟩ : ∃ n : Fin 256, i = Idealize.ShloMosaic.ix1 n := ⟨i 0, Idealize.ShloMosaic.eq_ix1 i⟩
  show @Eq (BitVec 1) _ _
  revert n
  decide +kernel

theorem h8_c9 : after hostOps0_8 σ main_c_9 = constantI S_ 32 2#32 := by
  simp only [hostOps0_8]; after_results_simp <;> rfl

theorem h9_v29 (h : σ main_v25 = iotaInDim S256 32 0) (hc : σ main_c_9 = constantI S_ 32 2#32) :
    after hostOps0_9 σ main_v29 = wv fun i => BitVec.ofNat 32 (i / 2) := by
  simp only [hostOps0_9, TRef.binary, TRef.nullary, TRef.ternary, TRef.unary, TRef.toBuf, TRef.ofBuf, cast_eq]
  after_results_simp
  simp only [h, hc]
  funext i
  obtain ⟨n, rfl⟩ : ∃ n : Fin 256, i = Idealize.ShloMosaic.ix1 n := ⟨i 0, Idealize.ShloMosaic.eq_ix1 i⟩
  show @Eq (BitVec 32) _ _
  revert n
  decide +kernel

theorem h10_c10 : after hostOps0_10 σ main_c_10 = constantI S_ 32 2#32 := by
  simp only [hostOps0_10]; after_results_simp <;> rfl

theorem h11_v30 (h : σ main_v25 = iotaInDim S256 32 0) (hc : σ main_c_10 = constantI S_ 32 2#32) :
    after hostOps0_11 σ main_v30 = wv fun i => BitVec.ofNat 32 (i / 2) := by
  simp only [hostOps0_11, TRef.binary, TRef.nullary, TRef.ternary, TRef.unary, TRef.toBuf, TRef.ofBuf, cast_eq]
  after_results_simp
  simp only [h, hc]
  funext i
  obtain ⟨n, rfl⟩ : ∃ n : Fin 256, i = Idealize.ShloMosaic.ix1 n := ⟨i 0, Idealize.ShloMosaic.eq_ix1 i⟩
  show @Eq (BitVec 32) _ _
  revert n
  decide +kernel

theorem h12_v32 (h : σ main_v30 = wv fun i => BitVec.ofNat 32 (i / 2)) :
    after hostOps0_12 σ main_v32 = wv fun i => BitVec.ofNat 32 (128 + i / 2) := by
  simp only [hostOps0_12, TRef.binary, TRef.nullary, TRef.ternary, TRef.unary, TRef.toBuf, TRef.ofBuf, cast_eq]
  after_results_simp
  simp only [h]
  funext i
  obtain ⟨n, rfl⟩ : ∃ n : Fin 256, i = Idealize.ShloMosaic.ix1 n := ⟨i 0, Idealize.ShloMosaic.eq_ix1 i⟩
  show @Eq (BitVec 32) _ _
  revert n
  decide +kernel

/-- Where column `i` of a strip of 256 goes: the even ones to the first half, the odd ones to the second. -/
def pm (i : Nat) : Nat := if i % 2 = 0 then i / 2 else 128 + i / 2

theorem h13_v33 (h : σ main_v28 = fun i : S256.Idx => IntOp.cmpi .eq (BitVec.ofNat 32 ((i 0).val % 2)) 0#32)
    (h9 : σ main_v29 = wv fun i => BitVec.ofNat 32 (i / 2)) (h12 : σ main_v32 = wv fun i => BitVec.ofNat 32 (128 + i / 2)) :
    after hostOps0_13 σ main_v33 = wv fun i => BitVec.ofNat 32 (pm i) := by
  simp only [hostOps0_13, TRef.binary, TRef.nullary, TRef.ternary, TRef.unary, TRef.toBuf, TRef.ofBuf, cast_eq]
  after_results_simp
  simp only [h, h9, h12]
  funext i
  obtain ⟨n, rfl⟩ : ∃ n : Fin 256, i = Idealize.ShloMosaic.ix1 n := ⟨i 0, Idealize.ShloMosaic.eq_ix1 i⟩
  show @Eq (BitVec 32) _ _
  revert n
  decide +kernel

/-- One bit as an extended real. -/
theorem uitofp_bit (b : BitVec 1) : (FloatOps.uitofp (F := Ideal) .bf16 b : EReal) = if b = 1#1 then 1 else 0 := by
  obtain rfl | rfl : b = 0#1 ∨ b = 1#1 := by revert b; decide
  · show (((0#1).toNat : ℝ) : EReal) = _
    simp
  · show (((1#1).toNat : ℝ) : EReal) = _
    simp

theorem pm_lt (r : Fin 256) : pm r.val < 256 := by unfold pm; split <;> omega

theorem h14_v39 (h : σ main_v33 = wv fun i => BitVec.ofNat 32 (pm i)) (h25 : σ main_v25 = iotaInDim S256 32 0) (r c : Fin 256) :
    (after hostOps0_14 σ main_v39 : FVec Ideal S256x256 .bf16) (ix2 r c) = (if pm r.val = c.val then 1 else 0 : EReal) := by
  simp only [hostOps0_14]
  after_results_simp
  simp only [h, h25]
  pointwise
  refine (uitofp_bit _).trans ?_
  have hr := pm_lt r
  have hc := c.isLt
  have e : (IntOp.cmpi .eq (BitVec.ofNat 32 (pm r.val)) (BitVec.ofNat 32 c.val) = 1#1) ↔ pm r.val = c.val := by
    rw [show IntOp.cmpi .eq (BitVec.ofNat 32 (pm r.val)) (BitVec.ofNat 32 c.val)
      = BitVec.ofBool (BitVec.ofNat 32 (pm r.val) == BitVec.ofNat 32 c.val) from rfl]
    by_cases hq : pm r.val = c.val
    · simp [hq]
    · have : ¬ (BitVec.ofNat 32 (pm r.val) = BitVec.ofNat 32 c.val) := fun hh => hq (by
        have := congrArg BitVec.toNat hh
        rw [BitVec.toNat_ofNat, BitVec.toNat_ofNat] at this; omega)
      simp [hq, beq_eq_false_iff_ne.mpr this]
  exact if_congr e rfl rfl

variable (m : (ℓ : Loc nD τ sig) → Buf (Elt Ideal) ℓ) (c : Dev nD)

theorem V7_v25 : V7 m c main_v25 = iotaInDim S256 32 0 := h6_v25 _
theorem V15_v39 (r q : Fin 256) : (V15 m c main_v39 : FVec Ideal S256x256 .bf16) (ix2 r q) = (if pm r.val = q.val then 1 else 0 : EReal) :=
  h14_v39 _ (h13_v33 _ ((V13_of m c main_v28 (by decide)).trans ((V12_of m c main_v28 (by decide)).trans ((V11_of m c main_v28 (by decide)).trans ((V10_of m c main_v28 (by decide)).trans (h8_v28 _ (h7_v26 _ (V7_v25 m c) (h6_c7 _))))))) ((V13_of m c main_v29 (by decide)).trans ((V12_of m c main_v29 (by decide)).trans ((V11_of m c main_v29 (by decide)).trans (h9_v29 _ ((V9_of m c main_v25 (by decide)).trans ((V8_of m c main_v25 (by decide)).trans (V7_v25 m c))) (h8_c9 _))))) (h12_v32 _ (h11_v30 _ ((V11_of m c main_v25 (by decide)).trans ((V10_of m c main_v25 (by decide)).trans ((V9_of m c main_v25 (by decide)).trans ((V8_of m c main_v25 (by decide)).trans (V7_v25 m c))))) (h10_c10 _)))) ((V14_of m c main_v25 (by decide)).trans ((V13_of m c main_v25 (by decide)).trans ((V12_of m c main_v25 (by decide)).trans ((V11_of m c main_v25 (by decide)).trans ((V10_of m c main_v25 (by decide)).trans ((V9_of m c main_v25 (by decide)).trans ((V8_of m c main_v25 (by decide)).trans (V7_v25 m c)))))))) r q

theorem h6_v24 : (after hostOps0_6 σ main_v24 : FVec Ideal S32x1024x2048 .f32)
    = shapeCast S32x1024x2048 (σ main_arg2 : FVec Ideal S1x32x1024x2048 .f32) shapeCasts_S1x32x1024x2048_S32x1024x2048 := by
  simp only [hostOps0_6]; after_results_simp <;> rfl

theorem cast_v24 (x : FVec Ideal S1x32x1024x2048 .f32) (e : Fin 32) (r : Fin 1024) (q : Fin 2048) :
    shapeCast S32x1024x2048 x shapeCasts_S1x32x1024x2048_S32x1024x2048 (ix3 e r q) = x (ix4 0 e r q) := by
  pointwise

/-- The first layer's weights as the first call reads them. -/
theorem V15_v24 (e : Fin 32) (r : Fin 1024) (q : Fin 2048) : (V15 m c main_v24 : FVec Ideal S32x1024x2048 .f32) (ix3 e r q)
    = (m ((c : Thread nD τ).loc main_arg2) : FVec Ideal S1x32x1024x2048 .f32) (ix4 0 e r q) := by
  have h : (V15 m c main_v24 : FVec Ideal S32x1024x2048 .f32)
      = shapeCast S32x1024x2048 (m ((c : Thread nD τ).loc main_arg2) : FVec Ideal S1x32x1024x2048 .f32) shapeCasts_S1x32x1024x2048_S32x1024x2048 :=
    (V15_of m c main_v24 (by decide)).trans ((V14_of m c main_v24 (by decide)).trans ((V13_of m c main_v24 (by decide)).trans ((V12_of m c main_v24 (by decide)).trans ((V11_of m c main_v24 (by decide)).trans ((V10_of m c main_v24 (by decide)).trans ((V9_of m c main_v24 (by decide)).trans ((V8_of m c main_v24 (by decide)).trans ((h6_v24 _).trans (congrArg (fun x => shapeCast S32x1024x2048 x shapeCasts_S1x32x1024x2048_S32x1024x2048) ((V6_of m c main_arg2 (by decide)).trans ((V5_of m c main_arg2 (by decide)).trans ((V4_of m c main_arg2 (by decide)).trans ((V3_of m c main_arg2 (by decide)).trans ((V2_of m c main_arg2 (by decide)).trans ((V1_of m c main_arg2 (by decide)).trans (rfl))))))))))))))))
  exact (congrFun h _).trans (cast_v24 _ e r q)

/-- The source of the permuted column `q`. -/
def src (q : Fin 2048) : Fin 2048 := ⟨256 * (q.val / 256) + 2 * (q.val % 128) + q.val % 256 / 128, by omega⟩

theorem h_v44 (e : Fin 32) (q : Fin 2048) : (after hostOps1 σ main_v44 : FVec Ideal S32x1x2048 .f32) (ix3 e 0 q)
    = (σ main_arg3 : FVec Ideal S1x32x2048 .f32) (ix3 0 e (src q)) := by
  simp only [hostOps1]
  after_results_simp
  pointwise
  refine congrArg (fun k : Fin 2048 => (σ main_arg3 : FVec Ideal S1x32x2048 .f32) (ix3 0 e k)) (Fin.ext ?_)
  show q.val / 256 * 256 + q.val % 128 * 2 + q.val / 128 % 2 = 256 * (q.val / 256) + 2 * (q.val % 128) + q.val % 256 / 128
  omega

theorem h_v46 (e : Fin 32) (k d : Fin 1024) : (after hostOps1 σ main_v46 : FVec Ideal S32x1024x1024 .bf16) (ix3 e k d)
    = (σ main_arg4 : FVec Ideal S1x32x1024x1024 .f32) (ix4 0 e k d) := by
  simp only [hostOps1]
  after_results_simp
  pointwise

theorem h_v48 (e : Fin 32) (d : Fin 1024) : (after hostOps1 σ main_v48 : FVec Ideal S32x1x1024 .f32) (ix3 e 0 d)
    = (σ main_arg5 : FVec Ideal S1x32x1024 .f32) (ix3 0 e d) := by
  simp only [hostOps1]
  after_results_simp
  pointwise

/-- The arrays the second call reads, beside the permuted weights. -/
theorem V17_arg0 : V17 m (outs0 m) c main_arg0 = m ((c : Thread nD τ).loc main_arg0) := (V18_of m (outs0 m) c main_arg0 (by decide)).symm.trans (V18_main_arg0 m (outs0 m) c)
theorem V17_v44 (e : Fin 32) (q : Fin 2048) : (V17 m (outs0 m) c main_v44 : FVec Ideal S32x1x2048 .f32) (ix3 e 0 q)
    = (m ((c : Thread nD τ).loc main_arg3) : FVec Ideal S1x32x2048 .f32) (ix3 0 e (src q)) :=
  (h_v44 (V16 m (outs0 m) c) e q).trans (congrFun ((V17_of m (outs0 m) c main_arg3 (by decide)).symm.trans ((V18_of m (outs0 m) c main_arg3 (by decide)).symm.trans (V18_main_arg3 m (outs0 m) c)) : V16 m (outs0 m) c main_arg3 = _) _)
theorem V17_v46 (e : Fin 32) (k d : Fin 1024) : (V17 m (outs0 m) c main_v46 : FVec Ideal S32x1024x1024 .bf16) (ix3 e k d)
    = (m ((c : Thread nD τ).loc main_arg4) : FVec Ideal S1x32x1024x1024 .f32) (ix4 0 e k d) :=
  (h_v46 (V16 m (outs0 m) c) e k d).trans (congrFun ((V17_of m (outs0 m) c main_arg4 (by decide)).symm.trans ((V18_of m (outs0 m) c main_arg4 (by decide)).symm.trans (V18_main_arg4 m (outs0 m) c)) : V16 m (outs0 m) c main_arg4 = _) _)
theorem V17_v48 (e : Fin 32) (d : Fin 1024) : (V17 m (outs0 m) c main_v48 : FVec Ideal S32x1x1024 .f32) (ix3 e 0 d)
    = (m ((c : Thread nD τ).loc main_arg5) : FVec Ideal S1x32x1024 .f32) (ix3 0 e d) :=
  (h_v48 (V16 m (outs0 m) c) e d).trans (congrFun ((V17_of m (outs0 m) c main_arg5 (by decide)).symm.trans ((V18_of m (outs0 m) c main_arg5 (by decide)).symm.trans (V18_main_arg5 m (outs0 m) c)) : V16 m (outs0 m) c main_arg5 = _) _)

end Cert.KernelIdeal.Moe

end
-- ==== Proof.PrepVal.lean ====
module

public import proofs.«01_k».proof.Proof.Host

@[expose] public section

/-! The first call over extended reals: its result is the first layer's weights with the columns of each strip of 256
permuted, the even ones first. A product with the permutation matrix has one term that is not zero. -/

set_option maxRecDepth 16384

noncomputable section

namespace Cert.KernelIdeal.Moe

open Cert.KernelIdeal.Gen
open Idealize.ShloMosaic Idealize.ShloMosaic.TcCoe Idealize.ShloMosaic.StableHlo
open Idealize.SL Idealize.SL.Sem
open Idealize.ShloMosaic.Pipeline (Dat)

/-- One strip's product. -/
theorem strip_mul (x : FVec Ideal S1x512x256 .f32) (p : FVec Ideal S256x256 .bf16) (r : Fin 512) (q : Fin 256) :
    (k0_pay4 (F := Ideal) x p (ix3 0 r q) : EReal) = ∑ k : Fin 256, (x (ix3 0 r k) * p (ix2 k q) : EReal) := by
  unfold k0_pay4
  pointwise

/-- The block's row `r` times column `q` of the matrix, within strip `q / 256`. -/
def pval (x0 : FVec Ideal S1x512x2048 .f32) (x1 : FVec Ideal S256x256 .bf16) (r : Fin 512) (q : Fin 2048) : EReal :=
  ∑ k : Fin 256, (x0 (ix3 0 r ⟨256 * (q.val / 256) + k.val, by omega⟩) * x1 (ix2 k ⟨q.val % 256, by omega⟩) : EReal)

/-- What strip `j`'s write leaves at a place of the strip. -/
theorem strip_val (x0 : FVec Ideal S1x512x2048 .f32) (x1 : FVec Ideal S256x256 .bf16) (j : Nat) (o : Nat) (ho : o = 256 * j)
    (inb : ∀ a, (![0, 0, o] : Fin 3 → Nat) a + S1x512x256.size a ≤ S1x512x2048.size a) (r : Fin 512) (q : Fin 2048) (x : S1x512x256.Idx)
    (h : ∀ a, ((ix3 (0 : Fin 1) r q : S1x512x2048.Idx) a : Nat) = (![0, 0, o] : Fin 3 → Nat) a + x a) :
    (k0_pay4 (F := Ideal) (View.ld x0 (Rect.unit (s := S1x512x2048) ![0, 0, o] S1x512x256.size inb)) (View.ld x1 qp) x : EReal) = pval x0 x1 r q := by
  obtain ⟨z, r', q', rfl⟩ : ∃ (z : Fin 1) (r' : Fin 512) (q' : Fin 256), x = ix3 z r' q' := ⟨x 0, x 1, x 2, eq_ix3 x⟩
  have h1 : r.val = 0 + r'.val := h 1
  have h2 : q.val = o + q'.val := h 2
  obtain rfl : z = 0 := Fin.ext (by omega)
  refine (strip_mul _ _ r' q').trans (Finset.sum_congr rfl fun k _ => ?_)
  have hq := q'.isLt
  have e0 : View.ld (Val := Elt Ideal) (e' := .f32) x0 (Rect.unit (s := S1x512x2048) ![0, 0, o] S1x512x256.size inb) (ix3 0 r' k) = x0 (ix3 0 r ⟨256 * (q.val / 256) + k.val, by omega⟩) := by
    refine congrArg x0 (funext fun a => Fin.ext ?_)
    match a with
    | ⟨0, _⟩ => rfl
    | ⟨1, _⟩ => show 0 + 1 * r'.val = r.val; omega
    | ⟨2, _⟩ => show o + 1 * k.val = 256 * (q.val / 256) + k.val; omega
  have e1 : View.ld (Val := Elt Ideal) (e' := .bf16) x1 qp (ix2 k q') = x1 (ix2 k ⟨q.val % 256, by omega⟩) := by
    refine congrArg x1 (funext fun a => Fin.ext ?_)
    match a with
    | ⟨0, _⟩ => show 0 + 1 * k.val = k.val; omega
    | ⟨1, _⟩ => show 0 + 1 * q'.val = q.val % 256; omega
  exact congr (congrArg (fun (y z : EReal) => y * z) e0) e1

theorem pout_at (x0 : FVec Ideal S1x512x2048 .f32) (x1 : FVec Ideal S256x256 .bf16) (r : Fin 512) (q : Fin 2048) :
    (pout (F := Ideal) x0 x1 (ix3 0 r q) : EReal) = pval x0 x1 r q := by
  unfold pout
  refine View.canon_eq_of_allAt _ _ _ (pcover _ _ _ _ _ _ _ _ _) ?_
  refine View.allAt_cons_unit _ _ _ _ _ (fun x h => strip_val x0 x1 7 1792 rfl _ r q x h) ?_
  refine View.allAt_cons_unit _ _ _ _ _ (fun x h => strip_val x0 x1 6 1536 rfl _ r q x h) ?_
  refine View.allAt_cons_unit _ _ _ _ _ (fun x h => strip_val x0 x1 5 1280 rfl _ r q x h) ?_
  refine View.allAt_cons_unit _ _ _ _ _ (fun x h => strip_val x0 x1 4 1024 rfl _ r q x h) ?_
  refine View.allAt_cons_unit _ _ _ _ _ (fun x h => strip_val x0 x1 3 768 rfl _ r q x h) ?_
  refine View.allAt_cons_unit _ _ _ _ _ (fun x h => strip_val x0 x1 2 512 rfl _ r q x h) ?_
  refine View.allAt_cons_unit _ _ _ _ _ (fun x h => strip_val x0 x1 1 256 rfl _ r q x h) ?_
  refine View.allAt_cons_unit _ _ _ _ _ (fun x h => strip_val x0 x1 0 0 rfl _ r q x h) ?_
  exact View.allAt_nil _ _

theorem pm_src (q : Nat) : pm (2 * (q % 128) + q % 256 / 128) = q % 256 := by
  obtain h | h : q % 256 / 128 = 0 ∨ q % 256 / 128 = 1 := by omega
  all_goals rw [h]; unfold pm; split <;> omega
theorem src_of_pm (k q : Nat) (hk : k < 256) (h : pm k = q % 256) : k = 2 * (q % 128) + q % 256 / 128 := by
  revert h; unfold pm; split <;> omega

/-- A row times a column of the permutation matrix: the entry the column's one stands at. -/
theorem pval_perm (x0 : FVec Ideal S1x512x2048 .f32) (x1 : FVec Ideal S256x256 .bf16)
    (hp : ∀ r q : Fin 256, (x1 (ix2 r q) : EReal) = if pm r.val = q.val then 1 else 0) (r : Fin 512) (q : Fin 2048) :
    pval x0 x1 r q = x0 (ix3 0 r (src q)) := by
  unfold pval
  simp only [hp]
  rw [Finset.sum_eq_single (⟨2 * (q.val % 128) + q.val % 256 / 128, by omega⟩ : Fin 256)]
  · rw [if_pos (pm_src q.val)]
    refine (mul_one (M := EReal) _).trans ?_
    refine congrArg (fun k : Fin 2048 => x0 (ix3 0 r k)) (Fin.ext ?_)
    show 256 * (q.val / 256) + (2 * (q.val % 128) + q.val % 256 / 128) = 256 * (q.val / 256) + 2 * (q.val % 128) + q.val % 256 / 128
    omega
  · intro k _ hk
    rw [if_neg]
    · exact mul_zero (M₀ := EReal) _
    · intro hh
      refine hk (Fin.ext ?_)
      exact src_of_pm k.val q.val k.isLt hh
  · exact fun h => absurd (Finset.mem_univ _) h

/-- Every window's block index: grid point `t` is expert `t / 2`, half `t % 2` of the rows. -/
theorem idx0_val : ∀ t : Fin cfg0.N, win0_0.index t = ![t.val / 2, t.val % 2, 0]
    ∧ win0_1.index t = ![0, 0] ∧ win0_2.index t = ![t.val / 2, t.val % 2, 0] :=
  (by decide +kernel : ∀ t : Fin grid0.N, _)

variable (m : (ℓ : Loc nD τ sig) → Buf (Elt Ideal) ℓ) (c : Dev nD)

set_option maxHeartbeats 1000000 in
theorem blk0 (t : Fin cfg0.N) (r : Fin 512) (q : Fin 2048) (e : Fin 32) (rr : Fin 1024) (he : e.val = t.val / 2)
    (hr : rr.val = t.val % 2 * 512 + r.val) : (pblk (V15 m) c 0 t : FVec Ideal S1x512x2048 .f32) (ix3 0 r q)
      = (m ((c : Thread nD τ).loc main_arg2) : FVec Ideal S1x32x1024x2048 .f32) (ix4 0 e rr q) := by
  refine Eq.trans ?_ (V15_v24 m c e rr q)
  unfold pblk
  generalize hV : V15 m c = V
  blk_simp [idx0_val t]
  blk_ext [idx0_val t]

set_option maxHeartbeats 1000000 in
theorem blk1 (t : Fin cfg0.N) (r q : Fin 256) : (pblk (V15 m) c 1 t : FVec Ideal S256x256 .bf16) (ix2 r q) = (if pm r.val = q.val then 1 else 0 : EReal) := by
  refine Eq.trans ?_ (V15_v39 m c r q)
  unfold pblk
  generalize hV : V15 m c = V
  blk_simp [idx0_val t]
  blk_ext [idx0_val t]

/-- The permuted weights. -/
def w1p : FVec Ideal S32x1024x2048 .bf16 := fun i => (m ((c : Thread nD τ).loc main_arg2) : FVec Ideal S1x32x1024x2048 .f32) (ix4 0 (i 0) (i 1) (src (i 2)))

set_option maxHeartbeats 1000000 in
/-- The first call's array after its run. -/
theorem final0 : (pdat (V15 m) c).arrAt 2 cfg0.N = w1p m c := by
  refine (pdat (V15 m) c).arrAt_eq_of_covers 2 _ (by decide +kernel) fun t hf y => ?_
  obtain ⟨z, r, q, rfl⟩ : ∃ (z : Fin 1) (r : Fin 512) (q : Fin 2048), y = ix3 z r q := ⟨y 0, y 1, y 2, eq_ix3 y⟩
  obtain rfl : z = 0 := Fin.ext (by omega)
  have ht : t.val < 64 := t.isLt
  have e0 : ((((cfg0.win 2).blk t).view.emb (ix3 0 r q)) 0).val = t.val / 2 := by blk_simp [idx0_val t]; rfl
  have e1 : ((((cfg0.win 2).blk t).view.emb (ix3 0 r q)) 1).val = t.val % 2 * 512 + r.val := by blk_simp [idx0_val t]
  have e2 : ((((cfg0.win 2).blk t).view.emb (ix3 0 r q)) 2).val = q.val := by blk_simp [idx0_val t]
  blk_simp
  rw [p_after2]
  refine (pout_at _ _ r q).trans ((pval_perm _ _ (blk1 m c t) r q).trans ?_)
  refine (blk0 m c t r (src q) _ _ e0 e1).trans ?_
  exact congrArg (fun k : Fin 2048 => (m ((c : Thread nD τ).loc main_arg2) : FVec Ideal S1x32x1024x2048 .f32)
    (ix4 0 (((cfg0.win 2).blk t).view.emb (ix3 0 r q) 0) (((cfg0.win 2).blk t).view.emb (ix3 0 r q) 1) (src k))) (Fin.ext e2.symm)

/-- So the second call reads the permuted weights. -/
theorem V17_v40 (e : Fin 32) (r : Fin 1024) (q : Fin 2048) : (V17 m (outs0 m) c main_v40 : FVec Ideal S32x1024x2048 .bf16) (ix3 e r q)
    = (m ((c : Thread nD τ).loc main_arg2) : FVec Ideal S1x32x1024x2048 .f32) (ix4 0 e r (src q)) := by
  have h : V17 m (outs0 m) c main_v40 = w1p m c :=
    (V17_of m (outs0 m) c main_v40 (by decide)).trans <| (Function.update_self ..).trans <|
      (Pipeline.afterRegion_arr (pdat (V15 m) c) (V15 m c) (launch0 (F := Ideal)).win.arr_inj 2).trans (final0 m c)
  exact congrFun h _

end Cert.KernelIdeal.Moe

end
-- ==== Proof.RefVal.lean ====
module

public import proofs.«01_k».proof.Proof.Gen.ReferenceIdeal.Read
public import Idealize.ShloMosaic.Lib.Pipeline.ValueKit

@[expose] public section

/-! The reference's result, entry by entry. -/

set_option maxRecDepth 16384

noncomputable section

open Idealize.ShloMosaic Idealize.ShloMosaic.TcCoe Idealize.ShloMosaic.StableHlo

namespace Cert.ReferenceIdeal.Moe

open Cert.ReferenceIdeal Cert.ReferenceIdeal.Gen Cert.ReferenceIdeal.Read

/-- The first weights taken per block. -/
theorem take_w1 (x : S32x1024x2048.Idx → EReal) (idx : IVec S600x1 32) (n : Fin 600) (j : Fin 1024) (f : Fin 2048) (e : Fin 32) (he : (idx (ix2 n 0)).toNat = e.val) :
    Host.gather gather_S32x1024x2048_S600x1_S600x1024x2048_12_0_n_n_0_1_110242048 x idx (ix3 n j f) = x (ix3 e j f) := by
  unfold Host.gather
  refine congrArg x (funext fun a => Fin.ext ?_)
  match a with
  | ⟨0, _⟩ =>
    show gather_S32x1024x2048_S600x1_S600x1024x2048_12_0_n_n_0_1_110242048.start (ix3 n j f) idx 0 + gather_S32x1024x2048_S600x1_S600x1024x2048_12_0_n_n_0_1_110242048.batchCoord (ix3 n j f) 0 + gather_S32x1024x2048_S600x1_S600x1024x2048_12_0_n_n_0_1_110242048.offCoord (ix3 n j f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x1024x2048_S600x1_S600x1024x2048_12_0_n_n_0_1_110242048.startIndexMap from List.mem_singleton.mpr rfl)]
    have hsi : gather_S32x1024x2048_S600x1_S600x1024x2048_12_0_n_n_0_1_110242048.siIdx (ix3 n j f) ⟨List.idxOf (0 : Fin 3) gather_S32x1024x2048_S600x1_S600x1024x2048_12_0_n_n_0_1_110242048.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    show min (idx (ix2 n 0)).toInt.toNat 31 = e.val
    have hlt := e.isLt
    rw [BitVec.toInt_eq_toNat_of_lt (by omega), he]
    omega
  | ⟨1, _⟩ =>
    show gather_S32x1024x2048_S600x1_S600x1024x2048_12_0_n_n_0_1_110242048.start (ix3 n j f) idx ⟨1, by decide⟩ + gather_S32x1024x2048_S600x1_S600x1024x2048_12_0_n_n_0_1_110242048.batchCoord (ix3 n j f) ⟨1, by decide⟩ + gather_S32x1024x2048_S600x1_S600x1024x2048_12_0_n_n_0_1_110242048.offCoord (ix3 n j f) ⟨1, by decide⟩ = _
    rw [GatherDims.batchCoord_eq_zero _ _ _ List.not_mem_nil]
    unfold GatherDims.start GatherDims.offCoord
    rw [dif_neg (show ¬ (⟨1, by decide⟩ : Fin 3) ∈ gather_S32x1024x2048_S600x1_S600x1024x2048_12_0_n_n_0_1_110242048.startIndexMap by decide), dif_pos (show (⟨1, by decide⟩ : Fin 3) ∈ gather_S32x1024x2048_S600x1_S600x1024x2048_12_0_n_n_0_1_110242048.sKept by decide)]
    simp only [Nat.zero_add, Nat.add_zero]
    rfl
  | ⟨2, _⟩ =>
    show gather_S32x1024x2048_S600x1_S600x1024x2048_12_0_n_n_0_1_110242048.start (ix3 n j f) idx ⟨2, by decide⟩ + gather_S32x1024x2048_S600x1_S600x1024x2048_12_0_n_n_0_1_110242048.batchCoord (ix3 n j f) ⟨2, by decide⟩ + gather_S32x1024x2048_S600x1_S600x1024x2048_12_0_n_n_0_1_110242048.offCoord (ix3 n j f) ⟨2, by decide⟩ = _
    rw [GatherDims.batchCoord_eq_zero _ _ _ List.not_mem_nil]
    unfold GatherDims.start GatherDims.offCoord
    rw [dif_neg (show ¬ (⟨2, by decide⟩ : Fin 3) ∈ gather_S32x1024x2048_S600x1_S600x1024x2048_12_0_n_n_0_1_110242048.startIndexMap by decide), dif_pos (show (⟨2, by decide⟩ : Fin 3) ∈ gather_S32x1024x2048_S600x1_S600x1024x2048_12_0_n_n_0_1_110242048.sKept by decide)]
    simp only [Nat.zero_add, Nat.add_zero]
    rfl

/-- The second weights taken per block. -/
theorem take_w2 (x : S32x1024x1024.Idx → EReal) (idx : IVec S600x1 32) (n : Fin 600) (j : Fin 1024) (f : Fin 1024) (e : Fin 32) (he : (idx (ix2 n 0)).toNat = e.val) :
    Host.gather gather_S32x1024x1024_S600x1_S600x1024x1024_12_0_n_n_0_1_110241024 x idx (ix3 n j f) = x (ix3 e j f) := by
  unfold Host.gather
  refine congrArg x (funext fun a => Fin.ext ?_)
  match a with
  | ⟨0, _⟩ =>
    show gather_S32x1024x1024_S600x1_S600x1024x1024_12_0_n_n_0_1_110241024.start (ix3 n j f) idx 0 + gather_S32x1024x1024_S600x1_S600x1024x1024_12_0_n_n_0_1_110241024.batchCoord (ix3 n j f) 0 + gather_S32x1024x1024_S600x1_S600x1024x1024_12_0_n_n_0_1_110241024.offCoord (ix3 n j f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x1024x1024_S600x1_S600x1024x1024_12_0_n_n_0_1_110241024.startIndexMap from List.mem_singleton.mpr rfl)]
    have hsi : gather_S32x1024x1024_S600x1_S600x1024x1024_12_0_n_n_0_1_110241024.siIdx (ix3 n j f) ⟨List.idxOf (0 : Fin 3) gather_S32x1024x1024_S600x1_S600x1024x1024_12_0_n_n_0_1_110241024.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    show min (idx (ix2 n 0)).toInt.toNat 31 = e.val
    have hlt := e.isLt
    rw [BitVec.toInt_eq_toNat_of_lt (by omega), he]
    omega
  | ⟨1, _⟩ =>
    show gather_S32x1024x1024_S600x1_S600x1024x1024_12_0_n_n_0_1_110241024.start (ix3 n j f) idx ⟨1, by decide⟩ + gather_S32x1024x1024_S600x1_S600x1024x1024_12_0_n_n_0_1_110241024.batchCoord (ix3 n j f) ⟨1, by decide⟩ + gather_S32x1024x1024_S600x1_S600x1024x1024_12_0_n_n_0_1_110241024.offCoord (ix3 n j f) ⟨1, by decide⟩ = _
    rw [GatherDims.batchCoord_eq_zero _ _ _ List.not_mem_nil]
    unfold GatherDims.start GatherDims.offCoord
    rw [dif_neg (show ¬ (⟨1, by decide⟩ : Fin 3) ∈ gather_S32x1024x1024_S600x1_S600x1024x1024_12_0_n_n_0_1_110241024.startIndexMap by decide), dif_pos (show (⟨1, by decide⟩ : Fin 3) ∈ gather_S32x1024x1024_S600x1_S600x1024x1024_12_0_n_n_0_1_110241024.sKept by decide)]
    simp only [Nat.zero_add, Nat.add_zero]
    rfl
  | ⟨2, _⟩ =>
    show gather_S32x1024x1024_S600x1_S600x1024x1024_12_0_n_n_0_1_110241024.start (ix3 n j f) idx ⟨2, by decide⟩ + gather_S32x1024x1024_S600x1_S600x1024x1024_12_0_n_n_0_1_110241024.batchCoord (ix3 n j f) ⟨2, by decide⟩ + gather_S32x1024x1024_S600x1_S600x1024x1024_12_0_n_n_0_1_110241024.offCoord (ix3 n j f) ⟨2, by decide⟩ = _
    rw [GatherDims.batchCoord_eq_zero _ _ _ List.not_mem_nil]
    unfold GatherDims.start GatherDims.offCoord
    rw [dif_neg (show ¬ (⟨2, by decide⟩ : Fin 3) ∈ gather_S32x1024x1024_S600x1_S600x1024x1024_12_0_n_n_0_1_110241024.startIndexMap by decide), dif_pos (show (⟨2, by decide⟩ : Fin 3) ∈ gather_S32x1024x1024_S600x1_S600x1024x1024_12_0_n_n_0_1_110241024.sKept by decide)]
    simp only [Nat.zero_add, Nat.add_zero]
    rfl

/-- The first biases taken per block. -/
theorem take_b1 (x : S32x2048.Idx → EReal) (idx : IVec S600x1 32) (n : Fin 600) (f : Fin 2048) (e : Fin 32) (he : (idx (ix2 n 0)).toNat = e.val) :
    Host.gather gather_S32x2048_S600x1_S600x2048_1_0_n_n_0_1_12048 x idx (ix2 n f) = x (ix2 e f) := by
  unfold Host.gather
  refine congrArg x (funext fun a => Fin.ext ?_)
  match a with
  | ⟨0, _⟩ =>
    show gather_S32x2048_S600x1_S600x2048_1_0_n_n_0_1_12048.start (ix2 n f) idx 0 + gather_S32x2048_S600x1_S600x2048_1_0_n_n_0_1_12048.batchCoord (ix2 n f) 0 + gather_S32x2048_S600x1_S600x2048_1_0_n_n_0_1_12048.offCoord (ix2 n f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x2048_S600x1_S600x2048_1_0_n_n_0_1_12048.startIndexMap from List.mem_singleton.mpr rfl)]
    have hsi : gather_S32x2048_S600x1_S600x2048_1_0_n_n_0_1_12048.siIdx (ix2 n f) ⟨List.idxOf (0 : Fin 2) gather_S32x2048_S600x1_S600x2048_1_0_n_n_0_1_12048.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    show min (idx (ix2 n 0)).toInt.toNat 31 = e.val
    have hlt := e.isLt
    rw [BitVec.toInt_eq_toNat_of_lt (by omega), he]
    omega
  | ⟨1, _⟩ =>
    show gather_S32x2048_S600x1_S600x2048_1_0_n_n_0_1_12048.start (ix2 n f) idx ⟨1, by decide⟩ + gather_S32x2048_S600x1_S600x2048_1_0_n_n_0_1_12048.batchCoord (ix2 n f) ⟨1, by decide⟩ + gather_S32x2048_S600x1_S600x2048_1_0_n_n_0_1_12048.offCoord (ix2 n f) ⟨1, by decide⟩ = _
    rw [GatherDims.batchCoord_eq_zero _ _ _ List.not_mem_nil]
    unfold GatherDims.start GatherDims.offCoord
    rw [dif_neg (show ¬ (⟨1, by decide⟩ : Fin 2) ∈ gather_S32x2048_S600x1_S600x2048_1_0_n_n_0_1_12048.startIndexMap by decide), dif_pos (show (⟨1, by decide⟩ : Fin 2) ∈ gather_S32x2048_S600x1_S600x2048_1_0_n_n_0_1_12048.sKept by decide)]
    simp only [Nat.zero_add, Nat.add_zero]
    rfl

/-- The second biases taken per block. -/
theorem take_b2 (x : S32x1024.Idx → EReal) (idx : IVec S600x1 32) (n : Fin 600) (f : Fin 1024) (e : Fin 32) (he : (idx (ix2 n 0)).toNat = e.val) :
    Host.gather gather_S32x1024_S600x1_S600x1024_1_0_n_n_0_1_11024 x idx (ix2 n f) = x (ix2 e f) := by
  unfold Host.gather
  refine congrArg x (funext fun a => Fin.ext ?_)
  match a with
  | ⟨0, _⟩ =>
    show gather_S32x1024_S600x1_S600x1024_1_0_n_n_0_1_11024.start (ix2 n f) idx 0 + gather_S32x1024_S600x1_S600x1024_1_0_n_n_0_1_11024.batchCoord (ix2 n f) 0 + gather_S32x1024_S600x1_S600x1024_1_0_n_n_0_1_11024.offCoord (ix2 n f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x1024_S600x1_S600x1024_1_0_n_n_0_1_11024.startIndexMap from List.mem_singleton.mpr rfl)]
    have hsi : gather_S32x1024_S600x1_S600x1024_1_0_n_n_0_1_11024.siIdx (ix2 n f) ⟨List.idxOf (0 : Fin 2) gather_S32x1024_S600x1_S600x1024_1_0_n_n_0_1_11024.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    show min (idx (ix2 n 0)).toInt.toNat 31 = e.val
    have hlt := e.isLt
    rw [BitVec.toInt_eq_toNat_of_lt (by omega), he]
    omega
  | ⟨1, _⟩ =>
    show gather_S32x1024_S600x1_S600x1024_1_0_n_n_0_1_11024.start (ix2 n f) idx ⟨1, by decide⟩ + gather_S32x1024_S600x1_S600x1024_1_0_n_n_0_1_11024.batchCoord (ix2 n f) ⟨1, by decide⟩ + gather_S32x1024_S600x1_S600x1024_1_0_n_n_0_1_11024.offCoord (ix2 n f) ⟨1, by decide⟩ = _
    rw [GatherDims.batchCoord_eq_zero _ _ _ List.not_mem_nil]
    unfold GatherDims.start GatherDims.offCoord
    rw [dif_neg (show ¬ (⟨1, by decide⟩ : Fin 2) ∈ gather_S32x1024_S600x1_S600x1024_1_0_n_n_0_1_11024.startIndexMap by decide), dif_pos (show (⟨1, by decide⟩ : Fin 2) ∈ gather_S32x1024_S600x1_S600x1024_1_0_n_n_0_1_11024.sKept by decide)]
    simp only [Nat.zero_add, Nat.add_zero]
    rfl

/-- A word below 32 is not negative, so the wrap of negative indices keeps it. -/
theorem wrap_keeps (b : BitVec 32) (h : b.toNat < 32) : Scalar.select (IntOp.cmpi .slt b 0#32) (IntOp.addi b 32#32) b = b := by
  have h1 : b.slt 0#32 = false := by
    rw [BitVec.slt, decide_eq_false_iff_not, BitVec.toInt_eq_toNat_of_lt (by omega)]
    have : (0#32).toInt = 0 := by decide
    omega
  show Scalar.select (BitVec.ofBool (b.slt 0#32)) _ _ = _
  rw [h1]; rfl

/-- Row `p` of block `n`. -/
def row (n : Fin 600) (p : Fin 256) : Fin 153600 := ⟨n.val * 256 + p.val, by have := n.isLt; have := p.isLt; omega⟩

/-- An entry of the first product with its bias, for expert `e`. -/
def hid (x0 : (⟨S153600x1024, .f32⟩ : BufTy).Contents (Elt Ideal)) (x2 : (⟨S1x32x1024x2048, .f32⟩ : BufTy).Contents (Elt Ideal)) (x3 : (⟨S1x32x2048, .f32⟩ : BufTy).Contents (Elt Ideal)) (e : Fin 32) (r : Fin 153600) (f : Fin 2048) : EReal :=
  (∑ j : Fin 1024, x0 (ix2 r j) * x2 (ix4 0 e j f)) + x3 (ix3 0 e f)

/-- The activation of a gate entry and a linear one. -/
def swi (g l : Ideal .f32) : Ideal .f32 :=
  FloatOps.mulf (FloatOps.mulf (FloatOps.minimumf g (FloatOps.ofBits .f32 0x40E00000#32))
      (FloatOps.hostDivf (FloatOps.ofBits .f32 0x3F800000#32) (FloatOps.addf (FloatOps.ofBits .f32 0x3F800000#32)
        (FloatOps.hostUnary .exp (FloatOps.hostNegf (FloatOps.mulf (FloatOps.ofBits .f32 0x3FD9DB23#32) (FloatOps.minimumf g (FloatOps.ofBits .f32 0x40E00000#32))))))))
    (FloatOps.addf (FloatOps.minimumf (FloatOps.ofBits .f32 0x40E00000#32) (FloatOps.maximumf (FloatOps.ofBits .f32 0xC0E00000#32) l)) (FloatOps.ofBits .f32 0x3F800000#32))

/-- Column `2 k` and column `2 k + 1`. -/
def even (k : Fin 1024) : Fin 2048 := ⟨2 * k.val, by have := k.isLt; omega⟩
def odd (k : Fin 1024) : Fin 2048 := ⟨2 * k.val + 1, by have := k.isLt; omega⟩

variable (x0 : (⟨S153600x1024, .f32⟩ : BufTy).Contents (Elt Ideal)) (x1 : (⟨S32, .i32⟩ : BufTy).Contents (Elt Ideal)) (x2 : (⟨S1x32x1024x2048, .f32⟩ : BufTy).Contents (Elt Ideal)) (x3 : (⟨S1x32x2048, .f32⟩ : BufTy).Contents (Elt Ideal)) (x4 : (⟨S1x32x1024x1024, .f32⟩ : BufTy).Contents (Elt Ideal)) (x5 : (⟨S1x32x1024, .f32⟩ : BufTy).Contents (Elt Ideal)) (n : Fin 600) (p : Fin 256) (e : Fin 32) (he : (val_main_v19 (F := Ideal) x1 (ix1 n)).toNat = e.val)

include he in
theorem v27_at : (val_main_v27 (F := Ideal) x1 (ix2 n 0)).toNat = e.val := by
  rw [val_main_v27_apply, show idx_main_v27 (ix2 n 0) = ix1 n from funext fun a => match a with | ⟨0, _⟩ => rfl, val_main_v26_apply, val_main_v23_apply, val_main_v25_apply,
    val_main_v22_apply, val_main_v24_apply, val_main_c_6_apply, val_main_c_7_apply, wrap_keeps _ (by rw [he]; exact e.isLt)]
  exact he
include he in
theorem v36_at : (val_main_v36 (F := Ideal) x1 (ix2 n 0)).toNat = e.val := by
  rw [val_main_v36_apply, show idx_main_v36 (ix2 n 0) = ix1 n from funext fun a => match a with | ⟨0, _⟩ => rfl, val_main_v35_apply, val_main_v32_apply, val_main_v34_apply,
    val_main_v31_apply, val_main_v33_apply, val_main_c_8_apply, val_main_c_9_apply, wrap_keeps _ (by rw [he]; exact e.isLt)]
  exact he
include he in
theorem v64_at : (val_main_v64 (F := Ideal) x1 (ix2 n 0)).toNat = e.val := by
  rw [val_main_v64_apply, show idx_main_v64 (ix2 n 0) = ix1 n from funext fun a => match a with | ⟨0, _⟩ => rfl, val_main_v63_apply, val_main_v60_apply, val_main_v62_apply,
    val_main_v59_apply, val_main_v61_apply, val_main_c_16_apply, val_main_c_17_apply, wrap_keeps _ (by rw [he]; exact e.isLt)]
  exact he
include he in
theorem v73_at : (val_main_v73 (F := Ideal) x1 (ix2 n 0)).toNat = e.val := by
  rw [val_main_v73_apply, show idx_main_v73 (ix2 n 0) = ix1 n from funext fun a => match a with | ⟨0, _⟩ => rfl, val_main_v72_apply, val_main_v69_apply, val_main_v71_apply,
    val_main_v68_apply, val_main_v70_apply, val_main_c_18_apply, val_main_c_19_apply, wrap_keeps _ (by rw [he]; exact e.isLt)]
  exact he

include he in
theorem v28_at (j : Fin 1024) (f : Fin 2048) : val_main_v28 (F := Ideal) x1 x2 (ix3 n j f) = x2 (ix4 0 e j f) := by
  unfold val_main_v28
  rw [take_w1 _ _ n j f e (v27_at x1 n e he), val_main_v21_apply]
  refine congrArg x2 (funext fun a => Fin.ext ?_)
  have h0 := e.isLt; have h1 := j.isLt; have h2 := f.isLt
  match a with
  | ⟨0, _⟩ => rfl
  | ⟨1, _⟩ => show ((e.val * 1024 + j.val) * 2048 + f.val) / 2097152 % 32 = e.val; omega
  | ⟨2, _⟩ => show ((e.val * 1024 + j.val) * 2048 + f.val) / 2048 % 1024 = j.val; omega
  | ⟨3, _⟩ => show ((e.val * 1024 + j.val) * 2048 + f.val) % 2048 = f.val; omega

include he in
theorem v37_at (f : Fin 2048) : val_main_v37 (F := Ideal) x1 x3 (ix2 n f) = x3 (ix3 0 e f) := by
  unfold val_main_v37
  rw [take_b1 _ _ n f e (v36_at x1 n e he), val_main_v30_apply]
  refine congrArg x3 (funext fun a => Fin.ext ?_)
  have h0 := e.isLt; have h2 := f.isLt
  match a with
  | ⟨0, _⟩ => rfl
  | ⟨1, _⟩ => show (e.val * 2048 + f.val) / 2048 % 32 = e.val; omega
  | ⟨2, _⟩ => show (e.val * 2048 + f.val) % 2048 = f.val; omega

include he in
theorem v65_at (j : Fin 1024) (f : Fin 1024) : val_main_v65 (F := Ideal) x1 x4 (ix3 n j f) = x4 (ix4 0 e j f) := by
  unfold val_main_v65
  rw [take_w2 _ _ n j f e (v64_at x1 n e he), val_main_v58_apply]
  refine congrArg x4 (funext fun a => Fin.ext ?_)
  have h0 := e.isLt; have h1 := j.isLt; have h2 := f.isLt
  match a with
  | ⟨0, _⟩ => rfl
  | ⟨1, _⟩ => show ((e.val * 1024 + j.val) * 1024 + f.val) / 1048576 % 32 = e.val; omega
  | ⟨2, _⟩ => show ((e.val * 1024 + j.val) * 1024 + f.val) / 1024 % 1024 = j.val; omega
  | ⟨3, _⟩ => show ((e.val * 1024 + j.val) * 1024 + f.val) % 1024 = f.val; omega

include he in
theorem v74_at (f : Fin 1024) : val_main_v74 (F := Ideal) x1 x5 (ix2 n f) = x5 (ix3 0 e f) := by
  unfold val_main_v74
  rw [take_b2 _ _ n f e (v73_at x1 n e he), val_main_v67_apply]
  refine congrArg x5 (funext fun a => Fin.ext ?_)
  have h0 := e.isLt; have h2 := f.isLt
  match a with
  | ⟨0, _⟩ => rfl
  | ⟨1, _⟩ => show (e.val * 1024 + f.val) / 1024 % 32 = e.val; omega
  | ⟨2, _⟩ => show (e.val * 1024 + f.val) % 1024 = f.val; omega

theorem v20_at (j : Fin 1024) : val_main_v20 (F := Ideal) x0 (ix3 n p j) = x0 (ix2 (row n p) j) := by
  rw [val_main_v20_apply]
  refine congrArg x0 (funext fun a => Fin.ext ?_)
  have h2 := j.isLt
  match a with
  | ⟨0, _⟩ => show ((n.val * 256 + p.val) * 1024 + j.val) / 1024 = n.val * 256 + p.val; omega
  | ⟨1, _⟩ => show ((n.val * 256 + p.val) * 1024 + j.val) % 1024 = j.val; omega

include he in
theorem v40_at (f : Fin 2048) : val_main_v40 (F := Ideal) x0 x1 x2 x3 (ix3 n p f) = hid x0 x2 x3 e (row n p) f := by
  have hl : ∀ k : Fin 1024, lidx_main_v29 (ix3 n p f) k = ix3 n p k := fun k => funext fun a => match a with | ⟨0, _⟩ => rfl | ⟨1, _⟩ => rfl | ⟨2, _⟩ => rfl
  have hr : ∀ k : Fin 1024, ridx_main_v29 (ix3 n p f) k = ix3 n k f := fun k => funext fun a => match a with | ⟨0, _⟩ => rfl | ⟨1, _⟩ => rfl | ⟨2, _⟩ => rfl
  have hb : idx_main_v38 (idx_main_v39 (ix3 n p f)) = ix2 n f := funext fun a => match a with | ⟨0, _⟩ => rfl | ⟨1, _⟩ => rfl
  rw [val_main_v40_apply, val_main_v29_apply, val_main_v39_apply, val_main_v38_apply, hb, v37_at x1 x3 n e he]
  simp only [hl, hr, v20_at, v28_at x1 x2 n e he]
  rfl

include he in
theorem v57_at (k : Fin 1024) : val_main_v57 (F := Ideal) x0 x1 x2 x3 (ix3 n p k)
    = swi (hid x0 x2 x3 e (row n p) (even k)) (hid x0 x2 x3 e (row n p) (odd k)) := by
  have a1 : val_main_v41 (F := Ideal) x0 x1 x2 x3 (ix3 n p k) = hid x0 x2 x3 e (row n p) (even k) := by
    rw [← v40_at x0 x1 x2 x3 n p e he]
    unfold val_main_v41
    generalize val_main_v40 (F := Ideal) x0 x1 x2 x3 = y
    refine congrArg y (funext fun a => Fin.ext ?_)
    match a with
    | ⟨0, _⟩ => show 0 + 1 * n.val = n.val; omega
    | ⟨1, _⟩ => show 0 + 1 * p.val = p.val; omega
    | ⟨2, _⟩ => show 0 + 2 * k.val = 2 * k.val; omega
  have a2 : val_main_v44 (F := Ideal) x0 x1 x2 x3 (ix3 n p k) = hid x0 x2 x3 e (row n p) (odd k) := by
    rw [← v40_at x0 x1 x2 x3 n p e he]
    unfold val_main_v44
    generalize val_main_v40 (F := Ideal) x0 x1 x2 x3 = y
    refine congrArg y (funext fun a => Fin.ext ?_)
    match a with
    | ⟨0, _⟩ => show 0 + 1 * n.val = n.val; omega
    | ⟨1, _⟩ => show 0 + 1 * p.val = p.val; omega
    | ⟨2, _⟩ => show 1 + 2 * k.val = 2 * k.val + 1; omega
  rw [val_main_v57_apply, val_main_v54_apply, val_main_v56_apply, val_main_v53_apply, val_main_v51_apply, val_main_v49_apply, val_main_v48_apply, val_main_v47_apply,
    val_main_v45_apply, val_main_call2_v2_apply, val_main_v43_apply, a1, a2, val_main_v42_apply, val_main_v46_apply, val_main_v50_apply, val_main_v52_apply, val_main_v55_apply,
    val_main_call2_v1_apply, val_main_call2_v4_apply]
  rfl

include he in
theorem v77_at (d : Fin 1024) : val_main_v77 (F := Ideal) x0 x1 x2 x3 x4 x5 (ix3 n p d)
    = (∑ k : Fin 1024, swi (hid x0 x2 x3 e (row n p) (even k)) (hid x0 x2 x3 e (row n p) (odd k)) * x4 (ix4 0 e k d)) + x5 (ix3 0 e d) := by
  have hl : ∀ k : Fin 1024, lidx_main_v66 (ix3 n p d) k = ix3 n p k := fun k => funext fun a => match a with | ⟨0, _⟩ => rfl | ⟨1, _⟩ => rfl | ⟨2, _⟩ => rfl
  have hr : ∀ k : Fin 1024, ridx_main_v66 (ix3 n p d) k = ix3 n k d := fun k => funext fun a => match a with | ⟨0, _⟩ => rfl | ⟨1, _⟩ => rfl | ⟨2, _⟩ => rfl
  have hb : idx_main_v75 (idx_main_v76 (ix3 n p d)) = ix2 n d := funext fun a => match a with | ⟨0, _⟩ => rfl | ⟨1, _⟩ => rfl
  rw [val_main_v77_apply, val_main_v66_apply, val_main_v76_apply, val_main_v75_apply, hb, v74_at x1 x5 n e he]
  simp only [hl, hr, v57_at x0 x1 x2 x3 n p e he, v65_at x1 x4 n e he]
  rfl

include he in
/-- The result at row `p` of block `n`: the block's expert's feed-forward where the block is in use, and zero elsewhere. -/
theorem v86_at (d : Fin 1024) : val_main_v86 (F := Ideal) x0 x1 x2 x3 x4 x5 (ix2 (row n p) d)
    = Scalar.select (IntOp.cmpi .slt (BitVec.ofNat 32 n.val) (val_main_v81 (F := Ideal) x1 (fun a => a.elim0)))
        ((∑ k : Fin 1024, swi (hid x0 x2 x3 e (row n p) (even k)) (hid x0 x2 x3 e (row n p) (odd k)) * x4 (ix4 0 e k d)) + x5 (ix3 0 e d) : EReal)
        (FloatOps.ofBits (F := Ideal) .f32 0x00000000#32) := by
  have hi : idx_main_v86 (ix2 (row n p) d) = ix3 n p d := funext fun a => Fin.ext (by
    have h2 := d.isLt; have h1 := p.isLt
    match a with
    | ⟨0, _⟩ => show ((n.val * 256 + p.val) * 1024 + d.val) / 262144 = n.val; omega
    | ⟨1, _⟩ => show ((n.val * 256 + p.val) * 1024 + d.val) / 1024 % 256 = p.val; omega
    | ⟨2, _⟩ => show ((n.val * 256 + p.val) * 1024 + d.val) % 1024 = d.val; omega)
  have hc : idx_main_v84 (idx_main_call4_v1 (ix3 n p d)) = ix1 n := funext fun a => match a with | ⟨0, _⟩ => rfl
  have hz : idx_main_v82 (ix1 n) = fun a => a.elim0 := funext fun a => a.elim0
  rw [val_main_v86_apply, hi, val_main_v85_apply, v77_at x0 x1 x2 x3 x4 x5 n p e he, val_main_call4_v1_apply, val_main_v84_apply, hc, val_main_v83_apply, val_main_v82_apply, hz]
  rfl

end Cert.ReferenceIdeal.Moe

end
-- ==== Proof.MoeVal.lean ====
module

public import proofs.«01_k».proof.Proof.MoeBody
public import proofs.«01_k».proof.Proof.RefVal

@[expose] public section

/-! The experts' body over extended reals, entry by entry: the block it writes is the two layers of the reference on its
input blocks, the columns of the first layer's weights taken in strips of 128 gate columns and 128 linear columns. -/

set_option maxRecDepth 16384

noncomputable section

namespace Cert.KernelIdeal.Moe

open Cert.KernelIdeal.Gen
open Idealize.ShloMosaic Idealize.ShloMosaic.TcCoe Idealize.SL.Sem
open Cert.ReferenceIdeal.Moe (swi)

/-- The permuted columns that hold gate `k` and linear value `k`. -/
def gcol (k : Fin 1024) : Fin 2048 := ⟨256 * (k.val / 128) + k.val % 128, by omega⟩
def lcol (k : Fin 1024) : Fin 2048 := ⟨256 * (k.val / 128) + 128 + k.val % 128, by omega⟩

/-- A concatenation whose piece `n` is the strip of 128 columns from column `o` on, read in that piece. -/
theorem strip_at {α : Type} (v : S256x2048.Idx → α) (p : Fin 256) (k : Fin 1024) (xs : List ((s : Shape) × (s.Idx → α)))
    (n : Nat) (hn : n < xs.length) {hc : Shape.Concatenates (xs.map (·.1)) S256x1024 1} (o : Nat) (hs : S256x2048.Slices ![0, o] S256x128)
    (hx : xs[n] = ⟨S256x128, extractStridedSlice S256x128 ![0, o] v hs⟩) (pre : Nat)
    (hpre : (((xs.take n).map (·.1)).map fun s => if h : s.rank = S256x1024.rank then s.size ((1 : Fin 2).cast h.symm) else 0).sum = pre)
    (c : Fin 2048) (h0 : pre ≤ k.val) (h1 : k.val < pre + 128) (hcv : c.val = o + (k.val - pre)) :
    concatenate S256x1024 1 xs hc (ix2 p k) = v (ix2 p c) := by
  refine (concatenate_apply_piece (1 : Fin 2) xs hc (ix2 p k) n hn S256x128 _ hx rfl pre hpre (ix2 p ⟨k.val - pre, by omega⟩) ?_ ?_).trans ?_
  · intro b hb
    match b with
    | ⟨0, _⟩ => rfl
    | ⟨1, _⟩ => exact absurd rfl hb
  · show pre + (k.val - pre) = k.val; omega
  · refine congrArg v (funext fun a => Fin.ext ?_)
    match a with
    | ⟨0, _⟩ => show 0 + p.val = p.val; omega
    | ⟨1, _⟩ => show o + (k.val - pre) = c.val; omega

/-- The gate strips put together. -/
theorem gate_cat {α : Type} (v : S256x2048.Idx → α) (p : Fin 256) (k : Fin 1024) :
    concatenate S256x1024 1 [⟨S256x128, extractStridedSlice S256x128 ![0, 0] v slices_S256x2048_o0_0_S256x128⟩, ⟨S256x128, extractStridedSlice S256x128 ![0, 256] v slices_S256x2048_o0_256_S256x128⟩, ⟨S256x128, extractStridedSlice S256x128 ![0, 512] v slices_S256x2048_o0_512_S256x128⟩, ⟨S256x128, extractStridedSlice S256x128 ![0, 768] v slices_S256x2048_o0_768_S256x128⟩, ⟨S256x128, extractStridedSlice S256x128 ![0, 1024] v slices_S256x2048_o0_1024_S256x128⟩, ⟨S256x128, extractStridedSlice S256x128 ![0, 1280] v slices_S256x2048_o0_1280_S256x128⟩, ⟨S256x128, extractStridedSlice S256x128 ![0, 1536] v slices_S256x2048_o0_1536_S256x128⟩, ⟨S256x128, extractStridedSlice S256x128 ![0, 1792] v slices_S256x2048_o0_1792_S256x128⟩]
      concatenates_S256x128_S256x128_S256x128_S256x128_S256x128_S256x128_S256x128_S256x128_S256x1024_d1 (ix2 p k) = v (ix2 p (gcol k)) := by
  have hk := k.isLt
  obtain h | h | h | h | h | h | h | h : k.val / 128 = 0 ∨ k.val / 128 = 1 ∨ k.val / 128 = 2 ∨ k.val / 128 = 3 ∨ k.val / 128 = 4 ∨ k.val / 128 = 5 ∨ k.val / 128 = 6 ∨ k.val / 128 = 7 := by omega
  · exact strip_at v p k _ 0 (by show 0 < 8; decide) 0 _ rfl 0 rfl (gcol k) (by omega) (by omega)
      (by show 256 * (k.val / 128) + k.val % 128 = 0 + (k.val - 0); omega)
  · exact strip_at v p k _ 1 (by show 1 < 8; decide) 256 _ rfl 128 rfl (gcol k) (by omega) (by omega)
      (by show 256 * (k.val / 128) + k.val % 128 = 256 + (k.val - 128); omega)
  · exact strip_at v p k _ 2 (by show 2 < 8; decide) 512 _ rfl 256 rfl (gcol k) (by omega) (by omega)
      (by show 256 * (k.val / 128) + k.val % 128 = 512 + (k.val - 256); omega)
  · exact strip_at v p k _ 3 (by show 3 < 8; decide) 768 _ rfl 384 rfl (gcol k) (by omega) (by omega)
      (by show 256 * (k.val / 128) + k.val % 128 = 768 + (k.val - 384); omega)
  · exact strip_at v p k _ 4 (by show 4 < 8; decide) 1024 _ rfl 512 rfl (gcol k) (by omega) (by omega)
      (by show 256 * (k.val / 128) + k.val % 128 = 1024 + (k.val - 512); omega)
  · exact strip_at v p k _ 5 (by show 5 < 8; decide) 1280 _ rfl 640 rfl (gcol k) (by omega) (by omega)
      (by show 256 * (k.val / 128) + k.val % 128 = 1280 + (k.val - 640); omega)
  · exact strip_at v p k _ 6 (by show 6 < 8; decide) 1536 _ rfl 768 rfl (gcol k) (by omega) (by omega)
      (by show 256 * (k.val / 128) + k.val % 128 = 1536 + (k.val - 768); omega)
  · exact strip_at v p k _ 7 (by show 7 < 8; decide) 1792 _ rfl 896 rfl (gcol k) (by omega) (by omega)
      (by show 256 * (k.val / 128) + k.val % 128 = 1792 + (k.val - 896); omega)

/-- The linear strips put together. -/
theorem lin_cat {α : Type} (v : S256x2048.Idx → α) (p : Fin 256) (k : Fin 1024) :
    concatenate S256x1024 1 [⟨S256x128, extractStridedSlice S256x128 ![0, 128] v slices_S256x2048_o0_128_S256x128⟩, ⟨S256x128, extractStridedSlice S256x128 ![0, 384] v slices_S256x2048_o0_384_S256x128⟩, ⟨S256x128, extractStridedSlice S256x128 ![0, 640] v slices_S256x2048_o0_640_S256x128⟩, ⟨S256x128, extractStridedSlice S256x128 ![0, 896] v slices_S256x2048_o0_896_S256x128⟩, ⟨S256x128, extractStridedSlice S256x128 ![0, 1152] v slices_S256x2048_o0_1152_S256x128⟩, ⟨S256x128, extractStridedSlice S256x128 ![0, 1408] v slices_S256x2048_o0_1408_S256x128⟩, ⟨S256x128, extractStridedSlice S256x128 ![0, 1664] v slices_S256x2048_o0_1664_S256x128⟩, ⟨S256x128, extractStridedSlice S256x128 ![0, 1920] v slices_S256x2048_o0_1920_S256x128⟩]
      concatenates_S256x128_S256x128_S256x128_S256x128_S256x128_S256x128_S256x128_S256x128_S256x1024_d1 (ix2 p k) = v (ix2 p (lcol k)) := by
  have hk := k.isLt
  obtain h | h | h | h | h | h | h | h : k.val / 128 = 0 ∨ k.val / 128 = 1 ∨ k.val / 128 = 2 ∨ k.val / 128 = 3 ∨ k.val / 128 = 4 ∨ k.val / 128 = 5 ∨ k.val / 128 = 6 ∨ k.val / 128 = 7 := by omega
  · exact strip_at v p k _ 0 (by show 0 < 8; decide) 128 _ rfl 0 rfl (lcol k) (by omega) (by omega)
      (by show 256 * (k.val / 128) + 128 + k.val % 128 = 128 + (k.val - 0); omega)
  · exact strip_at v p k _ 1 (by show 1 < 8; decide) 384 _ rfl 128 rfl (lcol k) (by omega) (by omega)
      (by show 256 * (k.val / 128) + 128 + k.val % 128 = 384 + (k.val - 128); omega)
  · exact strip_at v p k _ 2 (by show 2 < 8; decide) 640 _ rfl 256 rfl (lcol k) (by omega) (by omega)
      (by show 256 * (k.val / 128) + 128 + k.val % 128 = 640 + (k.val - 256); omega)
  · exact strip_at v p k _ 3 (by show 3 < 8; decide) 896 _ rfl 384 rfl (lcol k) (by omega) (by omega)
      (by show 256 * (k.val / 128) + 128 + k.val % 128 = 896 + (k.val - 384); omega)
  · exact strip_at v p k _ 4 (by show 4 < 8; decide) 1152 _ rfl 512 rfl (lcol k) (by omega) (by omega)
      (by show 256 * (k.val / 128) + 128 + k.val % 128 = 1152 + (k.val - 512); omega)
  · exact strip_at v p k _ 5 (by show 5 < 8; decide) 1408 _ rfl 640 rfl (lcol k) (by omega) (by omega)
      (by show 256 * (k.val / 128) + 128 + k.val % 128 = 1408 + (k.val - 640); omega)
  · exact strip_at v p k _ 6 (by show 6 < 8; decide) 1664 _ rfl 768 rfl (lcol k) (by omega) (by omega)
      (by show 256 * (k.val / 128) + 128 + k.val % 128 = 1664 + (k.val - 768); omega)
  · exact strip_at v p k _ 7 (by show 7 < 8; decide) 1920 _ rfl 896 rfl (lcol k) (by omega) (by omega)
      (by show 256 * (k.val / 128) + 128 + k.val % 128 = 1920 + (k.val - 896); omega)

variable (x0 : FVec Ideal S256x1024 .f32) (x1 : FVec Ideal S1x1024x2048 .bf16) (x2 : FVec Ideal S1x1x2048 .f32)
  (x3 : FVec Ideal S1x1024x1024 .bf16) (x4 : FVec Ideal S1x1x1024 .f32)

/-- The first layer's value in row `p` of the block, at permuted column `c`. -/
def hk (p : Fin 256) (c : Fin 2048) : EReal := (∑ j : Fin 1024, (x0 (ix2 p j) * x1 (ix3 0 j c) : EReal)) + x2 (ix3 0 0 c)

/-- The activation, its sigmoid named. -/
theorem swi_eq (g l : EReal) : (swi g l : EReal) = min g (Ideal.ofBits .f32 0x40E00000#32)
    * Ideal.logistic (Ideal.ofBits .f32 0x3FD9DB23#32 * min g (Ideal.ofBits .f32 0x40E00000#32))
    * (min (Ideal.ofBits .f32 0x40E00000#32) (max (Ideal.ofBits .f32 0xC0E00000#32) l) + 1) := by
  unfold swi
  pointwise
  rfl

set_option maxHeartbeats 1000000 in
/-- The activation at column `k`. -/
theorem pay3_at (p : Fin 256) (k : Fin 1024) : (k1_pay3 (F := Ideal) x0 x1 x2 (ix2 p k) : EReal) = swi (hk x0 x1 x2 p (gcol k)) (hk x0 x1 x2 p (lcol k)) := by
  unfold k1_pay3
  pointwise [gate_cat, lin_cat]
  exact (swi_eq _ _).symm

set_option maxHeartbeats 1000000 in
/-- The block written at a point below the word. -/
theorem mact_at (p : Fin 256) (d : Fin 1024) : (mact (F := Ideal) x0 x1 x2 x3 x4 (ix2 p d) : EReal)
    = ((∑ k : Fin 1024, (swi (hk x0 x1 x2 p (gcol k)) (hk x0 x1 x2 p (lcol k)) * x3 (ix3 0 k d) : EReal)) + x4 (ix3 0 0 d) : EReal) := by
  unfold mact
  simp (disch := decide) only [View.canon_cons_unit_lit', View.ld_unit_lit']
  unfold k1_pay1 k1_pay4
  pointwise [pay3_at]

theorem mzero_at (y : S256x1024.Idx) : mzero (F := Ideal) y = FloatOps.ofBits (F := Ideal) .f32 0x00000000#32 := by
  unfold mzero
  simp (disch := decide) only [View.canon_cons_unit_lit', View.ld_unit_lit']
  rfl

end Cert.KernelIdeal.Moe

end
-- ==== Proof.Final.lean ====
module

public import proofs.«01_k».proof.Proof.Adm
public import proofs.«01_k».proof.Proof.PrepVal
public import proofs.«01_k».proof.Proof.MoeVal

@[expose] public section

/-! The second call over extended reals: the array it leaves is the reference's value of the six arguments. -/

set_option maxRecDepth 16384

noncomputable section

namespace Cert.KernelIdeal.Moe

open Cert.KernelIdeal.Gen
open Idealize.ShloMosaic Idealize.ShloMosaic.TcCoe Idealize.ShloMosaic.StableHlo
open Idealize.SL Idealize.SL.Sem
open Idealize.ShloMosaic.Pipeline (Dat)

theorem cov0 : ((cfg1 (at1 (F := Ideal) (fun _ => 0#32))).win 5).Covers := by decide +kernel

/-- The output's blocks cover its array, whatever the tables. -/
theorem cov5 (a : (pcfg1 (F := Ideal)).Adm) : ((cfg1 a).win 5).Covers := by
  have h := cov0
  generalize at1 (F := Ideal) (fun _ => 0#32) = b at h
  exact h

theorem coord1 : ∀ t : Fin grid1.N, (grid1.coords t 0).val = t.val := by decide +kernel

variable (x1 : Seg Ideal) (t : Fin grid1.N)

/-- A grid point as a number below 600. -/
abbrev nb : Fin 600 := ⟨t.val, t.isLt⟩

theorem coord1' : grid1.coords t 0 = nb t := Fin.ext (coord1 t)

theorem i0 (h : IntOp.cmpi .slt (BitVec.ofNat 32 t.val) (nused x1) = 1#1) : ((cfg1 (at1 x1)).win 0).index t = ![t.val, 0] := by
  refine (t0_eq x1 (grid1.coords t)).trans ?_
  rw [coord1 t, clamp_eq t.val t.isLt _ h]
theorem i5 (a : (pcfg1 (F := Ideal)).Adm) : ((cfg1 a).win 5).index t = ![t.val, 0] := by
  have h : ((cfg1 a).win 5).index t = ![(BitVec.ofNat 32 (grid1.coords t 0).val).toNat, 0] := rfl
  have ht : t.val < 600 := t.isLt
  rw [h, coord1 t, BitVec.toNat_ofNat, Nat.mod_eq_of_lt (by omega)]

theorem j1 (a : (pcfg1 (F := Ideal)).Adm) : ((cfg1 a).win 1).index t = cc1_transform_1 k1_off1_inb numel1_S1 a.1 (grid1.coords t) := rfl
theorem i1 : ((cfg1 (at1 x1)).win 1).index t = ![(be x1 (nb t)).toNat, 0, 0] :=
  (j1 t (at1 x1)).trans ((t1_eq x1 (grid1.coords t)).trans (congrArg (fun n : Fin 600 => ![(be x1 n).toNat, 0, 0]) (coord1' t)))
theorem j2 (a : (pcfg1 (F := Ideal)).Adm) : ((cfg1 a).win 2).index t = cc1_transform_2 k1_off1_inb numel1_S1 a.1 (grid1.coords t) := rfl
theorem i2 : ((cfg1 (at1 x1)).win 2).index t = ![(be x1 (nb t)).toNat, 0, 0] :=
  (j2 t (at1 x1)).trans ((t2_eq x1 (grid1.coords t)).trans (congrArg (fun n : Fin 600 => ![(be x1 n).toNat, 0, 0]) (coord1' t)))
theorem j3 (a : (pcfg1 (F := Ideal)).Adm) : ((cfg1 a).win 3).index t = cc1_transform_3 k1_off1_inb numel1_S1 a.1 (grid1.coords t) := rfl
theorem i3 : ((cfg1 (at1 x1)).win 3).index t = ![(be x1 (nb t)).toNat, 0, 0] :=
  (j3 t (at1 x1)).trans ((t3_eq x1 (grid1.coords t)).trans (congrArg (fun n : Fin 600 => ![(be x1 n).toNat, 0, 0]) (coord1' t)))
theorem j4 (a : (pcfg1 (F := Ideal)).Adm) : ((cfg1 a).win 4).index t = cc1_transform_4 k1_off1_inb numel1_S1 a.1 (grid1.coords t) := rfl
theorem i4 : ((cfg1 (at1 x1)).win 4).index t = ![(be x1 (nb t)).toNat, 0, 0] :=
  (j4 t (at1 x1)).trans ((t4_eq x1 (grid1.coords t)).trans (congrArg (fun n : Fin 600 => ![(be x1 n).toNat, 0, 0]) (coord1' t)))

section Blocks
variable (a : (pcfg1 (F := Ideal)).Adm) (V : Dev nD → Valuation τ sig (Elt Ideal)) (c : Dev nD)

/-! The blocks at a grid point, read off the arrays at coordinates. -/

theorem mb0 (h : ((cfg1 a).win 0).index t = ![t.val, 0]) (p : Fin 256) (j : Fin 1024) (r : Fin 153600) (hr : r.val = t.val * 256 + p.val) :
    (mblk a V c 0 t : FVec Ideal S256x1024 .f32) (ix2 p j) = (V c main_arg0 : FVec Ideal S153600x1024 .f32) (ix2 r j) := by
  unfold mblk
  blk_simp [h]
  blk_ext [h]

theorem mb1 (e : Fin 32) (h : ((cfg1 a).win 1).index t = ![e.val, 0, 0]) (k : Fin 1024) (q : Fin 2048) :
    (mblk a V c 1 t : FVec Ideal S1x1024x2048 .bf16) (ix3 0 k q) = (V c main_v40 : FVec Ideal S32x1024x2048 .bf16) (ix3 e k q) := by
  unfold mblk
  blk_simp [h]
  blk_ext [h]

theorem mb2 (e : Fin 32) (h : ((cfg1 a).win 2).index t = ![e.val, 0, 0]) (q : Fin 2048) :
    (mblk a V c 2 t : FVec Ideal S1x1x2048 .f32) (ix3 0 0 q) = (V c main_v44 : FVec Ideal S32x1x2048 .f32) (ix3 e 0 q) := by
  unfold mblk
  blk_simp [h]
  blk_ext [h]

theorem mb3 (e : Fin 32) (h : ((cfg1 a).win 3).index t = ![e.val, 0, 0]) (k d : Fin 1024) :
    (mblk a V c 3 t : FVec Ideal S1x1024x1024 .bf16) (ix3 0 k d) = (V c main_v46 : FVec Ideal S32x1024x1024 .bf16) (ix3 e k d) := by
  unfold mblk
  blk_simp [h]
  blk_ext [h]

theorem mb4 (e : Fin 32) (h : ((cfg1 a).win 4).index t = ![e.val, 0, 0]) (d : Fin 1024) :
    (mblk a V c 4 t : FVec Ideal S1x1x1024 .f32) (ix3 0 0 d) = (V c main_v48 : FVec Ideal S32x1x1024 .f32) (ix3 e 0 d) := by
  unfold mblk
  blk_simp [h]
  blk_ext [h]

theorem mb5 (p : Fin 256) (d : Fin 1024) (r : Fin 153600) (hr : r.val = t.val * 256 + p.val) :
    ((((cfg1 a).win 5).blk t).view.emb (ix2 p d) : S153600x1024.Idx) = ix2 r d := by
  have h := i5 t a
  blk_ext [h]
end Blocks

variable (m : (ℓ : Loc nD τ sig) → Buf (Elt Ideal) ℓ)

/-- The six arguments at launch, on the core that holds them. -/
abbrev ar0 (c : Dev nD) : FVec Ideal S153600x1024 .f32 := m ((c : Thread nD τ).loc main_arg0)
abbrev ar2 (c : Dev nD) : FVec Ideal S1x32x1024x2048 .f32 := m ((c : Thread nD τ).loc main_arg2)
abbrev ar3 (c : Dev nD) : FVec Ideal S1x32x2048 .f32 := m ((c : Thread nD τ).loc main_arg3)
abbrev ar4 (c : Dev nD) : FVec Ideal S1x32x1024x1024 .f32 := m ((c : Thread nD τ).loc main_arg4)
abbrev ar5 (c : Dev nD) : FVec Ideal S1x32x1024 .f32 := m ((c : Thread nD τ).loc main_arg5)

theorem src_gcol (k : Fin 1024) : src (gcol k) = Cert.ReferenceIdeal.Moe.even k := by
  refine Fin.ext ?_
  show 256 * ((256 * (k.val / 128) + k.val % 128) / 256) + 2 * ((256 * (k.val / 128) + k.val % 128) % 128)
    + (256 * (k.val / 128) + k.val % 128) % 256 / 128 = 2 * k.val
  omega
theorem src_lcol (k : Fin 1024) : src (lcol k) = Cert.ReferenceIdeal.Moe.odd k := by
  refine Fin.ext ?_
  show 256 * ((256 * (k.val / 128) + 128 + k.val % 128) / 256) + 2 * ((256 * (k.val / 128) + 128 + k.val % 128) % 128)
    + (256 * (k.val / 128) + 128 + k.val % 128) % 256 / 128 = 2 * k.val + 1
  omega

/-- The first layer in the block is the reference's in the row the block's row stands at. -/
theorem hk_hid (a : (pcfg1 (F := Ideal)).Adm) (c : Dev nD) (e : Fin 32) (h0 : ((cfg1 a).win 0).index t = ![t.val, 0])
    (h1 : ((cfg1 a).win 1).index t = ![e.val, 0, 0]) (h2 : ((cfg1 a).win 2).index t = ![e.val, 0, 0])
    (p : Fin 256) (r : Fin 153600) (hr : r.val = t.val * 256 + p.val) (q : Fin 2048) :
    hk (mblk a (V17 m (outs0 m)) c 0 t) (mblk a (V17 m (outs0 m)) c 1 t) (mblk a (V17 m (outs0 m)) c 2 t) p q
      = Cert.ReferenceIdeal.Moe.hid (ar0 m c) (ar2 m c) (ar3 m c) e r (src q) := by
  unfold hk Cert.ReferenceIdeal.Moe.hid
  refine congr (congrArg (fun (y z : EReal) => y + z) (Finset.sum_congr rfl fun j _ => ?_))
    ((mb2 t a (V17 m (outs0 m)) c e h2 q).trans (V17_v44 m c e q))
  exact congr (congrArg (fun (y z : EReal) => y * z)
    ((mb0 t a (V17 m (outs0 m)) c h0 p j r hr).trans (congrFun (V17_arg0 m c) (ix2 r j))))
    ((mb1 t a (V17 m (outs0 m)) c e h1 j q).trans (V17_v40 m c e j q))

/-- The reference's entry in row `p` of block `n`, from the number `v` of blocks in use and the block's expert `e`. -/
def ent (c : Dev nD) (v : BitVec 32) (n : Fin 600) (p : Fin 256) (e : Fin 32) (d : Fin 1024) : EReal :=
  Scalar.select (IntOp.cmpi .slt (BitVec.ofNat 32 n.val) v)
    ((∑ k : Fin 1024, (Cert.ReferenceIdeal.Moe.swi (Cert.ReferenceIdeal.Moe.hid (ar0 m c) (ar2 m c) (ar3 m c) e (Cert.ReferenceIdeal.Moe.row n p) (Cert.ReferenceIdeal.Moe.even k))
      (Cert.ReferenceIdeal.Moe.hid (ar0 m c) (ar2 m c) (ar3 m c) e (Cert.ReferenceIdeal.Moe.row n p) (Cert.ReferenceIdeal.Moe.odd k))
        * ar4 m c (ix4 0 e k d) : EReal)) + ar5 m c (ix3 0 e d) : EReal) (FloatOps.ofBits (F := Ideal) .f32 0x00000000#32)

set_option maxHeartbeats 1000000 in
/-- What the body leaves at grid point `t`, where the index maps read the number `v` and the expert `e` off the tables. -/
theorem point_of (a : (pcfg1 (F := Ideal)).Adm) (c : Dev nD) (v : BitVec 32) (hv : nuw a = v) (e : Fin 32)
    (h0 : IntOp.cmpi .slt (BitVec.ofNat 32 t.val) v = 1#1 → ((cfg1 a).win 0).index t = ![t.val, 0])
    (h1 : ((cfg1 a).win 1).index t = ![e.val, 0, 0]) (h2 : ((cfg1 a).win 2).index t = ![e.val, 0, 0])
    (h3 : ((cfg1 a).win 3).index t = ![e.val, 0, 0]) (h4 : ((cfg1 a).win 4).index t = ![e.val, 0, 0]) (p : Fin 256) (d : Fin 1024) :
    (mout (F := Ideal) (nuw a) (grid1.coords t) (mblk a (V17 m (outs0 m)) c 0 t) (mblk a (V17 m (outs0 m)) c 1 t)
      (mblk a (V17 m (outs0 m)) c 2 t) (mblk a (V17 m (outs0 m)) c 3 t) (mblk a (V17 m (outs0 m)) c 4 t)
      (ix2 p d) : EReal) = ent m c v (nb t) p e d := by
  unfold mout ent
  rw [cond1_eq, hv, coord1 t]
  by_cases hlt : IntOp.cmpi .slt (BitVec.ofNat 32 t.val) v = 1#1
  · rw [if_pos hlt]
    refine Eq.trans ?_ (if_pos hlt).symm
    refine (mact_at _ _ _ _ _ p d).trans ?_
    refine congr (congrArg (fun (y z : EReal) => y + z) (Finset.sum_congr rfl fun k _ => ?_))
      ((mb4 t a (V17 m (outs0 m)) c e h4 d).trans (V17_v48 m c e d))
    have hg := (hk_hid t m a c e (h0 hlt) h1 h2 p (Cert.ReferenceIdeal.Moe.row (nb t) p) rfl (gcol k)).trans
      (congrArg (Cert.ReferenceIdeal.Moe.hid (ar0 m c) (ar2 m c) (ar3 m c) e (Cert.ReferenceIdeal.Moe.row (nb t) p)) (src_gcol k))
    have hl := (hk_hid t m a c e (h0 hlt) h1 h2 p (Cert.ReferenceIdeal.Moe.row (nb t) p) rfl (lcol k)).trans
      (congrArg (Cert.ReferenceIdeal.Moe.hid (ar0 m c) (ar2 m c) (ar3 m c) e (Cert.ReferenceIdeal.Moe.row (nb t) p)) (src_lcol k))
    exact congr (congrArg (fun (y z : EReal) => y * z) (congr (congrArg Cert.ReferenceIdeal.Moe.swi hg) hl))
      ((mb3 t a (V17 m (outs0 m)) c e h3 k d).trans (V17_v46 m c e k d))
  · rw [if_neg hlt]
    exact (mzero_at _).trans (if_neg hlt).symm

/-- A word of at most 31 as a number below 32. -/
def ofW (w : BitVec 32) (h : w.toNat ≤ 31) : Fin 32 := ⟨w.toNat, Nat.lt_succ_of_le h⟩
theorem ofW_val (w : BitVec 32) (h : w.toNat ≤ 31) : w.toNat = (ofW w h).val := rfl

/-- A block's expert, a number below 32. -/
def ex (x1 : Seg Ideal) (n : Fin 600) : Fin 32 := ofW (be x1 n) (be_le x1 (pt n))

theorem ex_ix2 (y : S256x1024.Idx) : ∃ (p : Fin 256) (d : Fin 1024), y = ix2 p d := ⟨y 0, y 1, eq_ix2 y⟩

set_option maxHeartbeats 1000000 in
/-- The second call's array after its run, where every entry of `G` is the body's. -/
theorem final_of (a : (pcfg1 (F := Ideal)).Adm) (c : Dev nD) (v : BitVec 32) (hv : nuw a = v) (e : Fin 600 → Fin 32)
    (h0 : ∀ t : Fin grid1.N, IntOp.cmpi .slt (BitVec.ofNat 32 t.val) v = 1#1 → ((cfg1 a).win 0).index t = ![t.val, 0])
    (h1 : ∀ t : Fin grid1.N, ((cfg1 a).win 1).index t = ![(e (nb t)).val, 0, 0]) (h2 : ∀ t : Fin grid1.N, ((cfg1 a).win 2).index t = ![(e (nb t)).val, 0, 0])
    (h3 : ∀ t : Fin grid1.N, ((cfg1 a).win 3).index t = ![(e (nb t)).val, 0, 0]) (h4 : ∀ t : Fin grid1.N, ((cfg1 a).win 4).index t = ![(e (nb t)).val, 0, 0])
    (G : FVec Ideal S153600x1024 .f32)
    (hG : ∀ (n : Fin 600) (p : Fin 256) (d : Fin 1024), G (ix2 (Cert.ReferenceIdeal.Moe.row n p) d) = ent m c v n p (e n) d) :
    (mdat a (V17 m (outs0 m)) c).arrAt 5 grid1.N = G := by
  refine (mdat a (V17 m (outs0 m)) c).arrAt_eq_of_covers 5 G (cov5 a) fun t hf y => ?_
  obtain ⟨p, d, rfl⟩ : ∃ (p : Fin 256) (d : Fin 1024), y = ix2 p d := ex_ix2 y
  refine Eq.trans ?_ (congrArg G (mb5 t a p d (Cert.ReferenceIdeal.Moe.row (nb t) p) rfl)).symm
  rw [hG]
  exact point_of t m a c v hv (e (nb t)) (h0 t) (h1 t) (h2 t) (h3 t) (h4 t) p d

theorem nuw_at1 : nuw (at1 x1) = nused x1 := tabs_one x1

theorem v86_ent (c : Dev nD) (n : Fin 600) (p : Fin 256) (d : Fin 1024) (e : Fin 32)
    (he : (Cert.ReferenceIdeal.Read.val_main_v19 (F := Ideal) x1 (Idealize.ShloMosaic.ix1 n)).toNat = e.val) :
    Cert.ReferenceIdeal.Read.val_main_v86 (F := Ideal) (ar0 m c) x1 (ar2 m c) (ar3 m c) (ar4 m c) (ar5 m c) (ix2 (Cert.ReferenceIdeal.Moe.row n p) d)
      = ent m c (nused x1) n p e d :=
  (Cert.ReferenceIdeal.Moe.v86_at (ar0 m c) x1 (ar2 m c) (ar3 m c) (ar4 m c) (ar5 m c) n p e he d).trans (by unfold ent nused; rfl)

theorem ex_eq (n : Fin 600) : (be x1 n).toNat = (ex x1 n).val := by
  unfold ex
  exact ofW_val (be x1 n) (be_le x1 (pt n))

theorem ex_val (n : Fin 600) : (Cert.ReferenceIdeal.Read.val_main_v19 (F := Ideal) x1 (Idealize.ShloMosaic.ix1 n)).toNat = (ex x1 n).val := by
  have h : (Idealize.ShloMosaic.ix1 n : S600.Idx) = pt n := funext fun a => match a with | ⟨0, _⟩ => rfl
  rw [h]
  exact ex_eq x1 n

theorem ex_at (n : Fin 600) : ![(be x1 n).toNat, 0, 0] = ![(ex x1 n).val, 0, 0] :=
  congrArg (fun k : ℕ => ![k, 0, 0]) (ex_eq x1 n)

/-- The second call's array after its run is the reference's value. -/
theorem final1 (c : Dev nD) : (mdat (at1 x1) (V17 m (outs0 m)) c).arrAt 5 grid1.N
    = Cert.ReferenceIdeal.Read.val_main_v86 (F := Ideal) (ar0 m c) x1 (ar2 m c) (ar3 m c) (ar4 m c) (ar5 m c) :=
  final_of m (at1 x1) c (nused x1) (nuw_at1 x1) (ex x1) (fun t => i0 x1 t) (fun t => (i1 x1 t).trans (ex_at x1 (nb t))) (fun t => (i2 x1 t).trans (ex_at x1 (nb t))) (fun t => (i3 x1 t).trans (ex_at x1 (nb t))) (fun t => (i4 x1 t).trans (ex_at x1 (nb t)))
    (Cert.ReferenceIdeal.Read.val_main_v86 (F := Ideal) (ar0 m c) x1 (ar2 m c) (ar3 m c) (ar4 m c) (ar5 m c))
    (fun n p d => v86_ent x1 m c n p d (ex x1 n) (ex_val x1 n))

end Cert.KernelIdeal.Moe

end
-- ==== Proof.SameCalls.lean ====
/- The two programs' calls are the same: their configurations and their bodies. -/
module

public import proofs.«01_k».proof.Defs

@[expose] public section

set_option maxRecDepth 16384
set_option maxHeartbeats 4000000

noncomputable section

open Idealize.ShloMosaic Idealize.ShloMosaic.TcCoe Idealize.SL.Sem

namespace Cert.Same

variable {F : FTy → Type} [FloatOps F] [Cert.Kernel.Facts] [Cert.KernelIdeal.Facts]

open Cert.KernelIdeal in
/-- The second call's configuration, its maps, its condition on the tables and its idle points left open. -/
abbrev cfgOf (ix : (pf : pre1.Contents (Elt F)) → (w : Fin 6) → grid1.Coords → Fin (spec1 w).shape.rank → Nat)
    (hreads : ∀ (pf : pre1.Contents (Elt F)) w (i i' : grid1.Coords), (∀ a, (spec1 w).reads a = true → i a = i' a) → ix pf w i = ix pf w i')
    (ok : pre1.Contents (Elt F) → Prop) [DecidablePred ok]
    (hinb : ∀ (pf : pre1.Contents (Elt F)), ok pf → ∀ w (i : grid1.Coords) a, (ix pf w i a + 1) * (spec1 w).size a ≤ (spec1 w).shape.size a)
    (hwx : ∀ (pf : pre1.Contents (Elt F)) (hok : ok pf) w (i : grid1.Coords), (spec1 w).elt.bits = 32 ∨ (Rect.block (spec1 w).size (ix pf w i) (hinb pf hok w i)).WholeWords (spec1 w).elt.packing)
    (idle : (pf : pre1.Contents (Elt F)) → Fin 6 → grid1.Coords → Bool) : Pipeline.PCfg sig Λ₀ (Elt F) :=
  Pipeline.PCfg.ofSpecs pre1 grid1 Facts₀.hrank1 (fun _ => grid1.bound) (fun _ _ _ => rfl) 6 spec1 hcount1 Facts.harr1 ix hreads ok hinb hwx 1
    (fun _ _ t s => (t, s)) idle

open Cert.KernelIdeal in
/-- It depends on these three alone. -/
theorem cfgOf_congr {ix ix' hr hr'} {ok ok' : pre1.Contents (Elt F) → Prop} [d : DecidablePred ok] [d' : DecidablePred ok'] {hi hi' hw hw' idle idle'}
    (e1 : ix = ix') (e2 : ok = ok') (e3 : idle = idle') : cfgOf (F := F) ix hr ok hi hw idle = cfgOf ix' hr' ok' hi' hw' idle' := by
  subst e1; subst e2; subst e3
  obtain rfl : d = d' := Subsingleton.elim _ _
  rfl

theorem ix_same : (Cert.Kernel.ix1 (F := F)) = Cert.KernelIdeal.ix1 := rfl

theorem ok_same : (Cert.Kernel.ok1 (F := F)) = Cert.KernelIdeal.ok1 := rfl

theorem idle_same : (Cert.Kernel.idle1 (F := F)) = Cert.KernelIdeal.idle1 := rfl

/-- The first call's configuration. -/
theorem cfg0_same : Cert.Kernel.cfg0.toPCfg (Val := Elt F) = Cert.KernelIdeal.cfg0.toPCfg := rfl

/-- The second call's. -/
theorem cfg1_same : (Cert.Kernel.pcfg1 (F := F)) = Cert.KernelIdeal.pcfg1 :=
  cfgOf_congr (ix := Cert.Kernel.ix1 (F := F)) (ok := Cert.Kernel.ok1 (F := F)) (idle := fun pf => Cert.Kernel.idle1 (F := F) pf)
    (hr := Cert.Kernel.hreads1) (hi := Cert.Kernel.hinb1) (hw := Cert.Kernel.hwx1)
    (ix' := Cert.KernelIdeal.ix1 (F := F)) (ok' := Cert.KernelIdeal.ok1 (F := F)) (idle' := fun pf => Cert.KernelIdeal.idle1 (F := F) pf)
    ix_same ok_same idle_same

/-- Both calls' configurations. -/
theorem cfgs_same : (Cert.Kernel.pcfgs (F := F)) = Cert.KernelIdeal.pcfgs := by
  funext p
  match p with
  | ⟨0, _⟩ => exact cfg0_same
  | ⟨1, _⟩ => exact cfg1_same

/-- Both calls' bodies. -/
theorem bodies_same : (Cert.Kernel.defs₀ (F := F)) = Cert.KernelIdeal.defs₀ := by
  funext p l a
  match p with
  | .tc =>
    match l, a with
    | (0 : Fin 2), (t, s) => rfl
    | (1 : Fin 2), (t, s) => rfl
  | .scScalar _ => rfl
  | .scVector _ _ => rfl

end Cert.Same

end
-- ==== Proof.SameMain.lean ====
/- The two programs' host code is the same, once their calls are. -/
module

public import proofs.«01_k».proof.Defs

@[expose] public section

set_option maxRecDepth 16384
set_option maxHeartbeats 4000000

noncomputable section

open Idealize.ShloMosaic Idealize.ShloMosaic.TcCoe Idealize.SL.Sem

namespace Cert.Same

variable {F : FTy → Type} [FloatOps F] [Cert.Kernel.Facts] [Cert.KernelIdeal.Facts]

/-- The host code up to the second weights' cast, the first call among it. -/
theorem part0_same (h : HEq (Cert.Kernel.pcfgs (F := F)) (Cert.KernelIdeal.pcfgs (F := F))) (hL : Cert.Kernel.Λ₀ = Cert.KernelIdeal.Λ₀) :
    HEq (Cert.Kernel.main_part0 (F := F)) (Cert.KernelIdeal.main_part0 (F := F)) := by
  delta Cert.Kernel.main_part0 Cert.KernelIdeal.main_part0 Cert.Kernel.fn_where.body Cert.Kernel.fn_floor_divide.body Cert.Kernel.fn_cumsum_0.body Cert.Kernel.fn_cumsum.body Cert.Kernel.fn_where_2.body Cert.Kernel.fn_floor_divide_1.body Cert.Kernel.fn_remainder.body Cert.Kernel.fn_where_4.body Cert.Kernel.fn_floor_divide_3.body Cert.KernelIdeal.fn_where.body Cert.KernelIdeal.fn_floor_divide.body Cert.KernelIdeal.fn_cumsum_0.body Cert.KernelIdeal.fn_cumsum.body Cert.KernelIdeal.fn_where_2.body Cert.KernelIdeal.fn_floor_divide_1.body Cert.KernelIdeal.fn_remainder.body Cert.KernelIdeal.fn_where_4.body Cert.KernelIdeal.fn_floor_divide_3.body
  revert h
  generalize Cert.Kernel.pcfgs (F := F) = p
  generalize Cert.KernelIdeal.pcfgs (F := F) = q
  revert p q
  generalize Cert.Kernel.Λ₀ = L at hL ⊢
  generalize Cert.KernelIdeal.Λ₀ = M at hL ⊢
  subst hL
  intro p q h
  obtain rfl := eq_of_heq h
  rfl

/-- The rest of it, the second call among it. -/
theorem part1_same (h : HEq (Cert.Kernel.pcfgs (F := F)) (Cert.KernelIdeal.pcfgs (F := F))) (hL : Cert.Kernel.Λ₀ = Cert.KernelIdeal.Λ₀) :
    HEq (Cert.Kernel.main_part1 (F := F)) (Cert.KernelIdeal.main_part1 (F := F)) := by
  delta Cert.Kernel.main_part1 Cert.KernelIdeal.main_part1
  revert h
  generalize Cert.Kernel.pcfgs (F := F) = p
  generalize Cert.KernelIdeal.pcfgs (F := F) = q
  revert p q
  generalize Cert.Kernel.Λ₀ = L at hL ⊢
  generalize Cert.KernelIdeal.Λ₀ = M at hL ⊢
  subst hL
  intro p q h
  obtain rfl := eq_of_heq h
  rfl

/-- The whole of it. -/
theorem main_same (h : HEq (Cert.Kernel.pcfgs (F := F)) (Cert.KernelIdeal.pcfgs (F := F))) (hL : Cert.Kernel.Λ₀ = Cert.KernelIdeal.Λ₀) :
    HEq (Cert.Kernel.main (F := F)) (Cert.KernelIdeal.main (F := F)) := by
  have h0 := part0_same h hL
  have h1 := part1_same h hL
  delta Cert.Kernel.main Cert.KernelIdeal.main
  revert h0 h1
  generalize Cert.Kernel.main_part0 (F := F) = a0
  generalize Cert.Kernel.main_part1 (F := F) = a1
  generalize Cert.KernelIdeal.main_part0 (F := F) = b0
  generalize Cert.KernelIdeal.main_part1 (F := F) = b1
  revert a0 a1 b0 b1
  revert h
  generalize Cert.Kernel.pcfgs (F := F) = p
  generalize Cert.KernelIdeal.pcfgs (F := F) = q
  revert p q
  generalize Cert.Kernel.Λ₀ = L at hL ⊢
  generalize Cert.KernelIdeal.Λ₀ = M at hL ⊢
  subst hL
  intro p q h a0 a1 b0 b1 h0 h1
  obtain rfl := eq_of_heq h
  obtain rfl := eq_of_heq h0
  obtain rfl := eq_of_heq h1
  rfl

end Cert.Same

end
-- ==== Proof.Same.lean ====
/- A run of the one program is a run of the other. -/
module

public import proofs.«01_k».proof.Proof.SameCalls
public import proofs.«01_k».proof.Proof.SameMain

@[expose] public section

set_option maxRecDepth 16384
set_option maxHeartbeats 4000000

noncomputable section

open Idealize.ShloMosaic Idealize.ShloMosaic.TcCoe Idealize.SL.Sem

namespace Cert.Same

variable {F : FTy → Type} [FloatOps F] [Cert.Kernel.Facts] [Cert.KernelIdeal.Facts]

/-- Programs with equal configurations, bodies and host code run alike. -/
theorem run_congr {nD : Nat} {τ : Topo} {sig : RefSig} {L : Labels} {Val : EltTy → Type} {p q : Fin 2 → Pipeline.PCfg sig L Val} (h : p = q)
    {d d' : Defs nD τ sig Val L} (hd : d = d')
    {M : Dev nD → Prog (TpuEff nD τ sig Val (Pipeline.Sig L (Fin 2) fun k => (p k).Adm) .tc) PUnit}
    {N : Dev nD → Prog (TpuEff nD τ sig Val (Pipeline.Sig L (Fin 2) fun k => (q k).Adm) .tc) PUnit} (hM : HEq M N) (s) (Q) :
    θ_run (Pipeline.defs q d') (onTc (τ := τ) N) s Q → θ_run (Pipeline.defs p d) (onTc (τ := τ) M) s Q := by
  subst h
  subst hd
  obtain rfl := eq_of_heq hM
  exact id

/-- What holds of every run of the program read over extended reals, at any float values, holds of every run of the program as printed. -/
theorem run_same (s) (Q) (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q :=
  run_congr cfgs_same bodies_same (main_same (heq_of_eq cfgs_same) rfl) s Q h

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Adm
public import proofs.«01_k».proof.Proof.Final
public import proofs.«01_k».proof.Proof.Same
public import Idealize.ShloMosaic.Adequacy
public import Idealize.ShloMosaic.Init

@[expose] public section

set_option maxRecDepth 16384

noncomputable section

namespace Cert.Proof

open Idealize.ShloMosaic Idealize.ShloMosaic.TcCoe Idealize.SL.Sem

open Cert.KernelIdeal.Moe Cert.KernelIdeal.Gen in
/-- What the second call leaves in its result, in the reference's words. -/
theorem kernel_val (m : (ℓ : Loc Cert.KernelIdeal.nD Cert.KernelIdeal.τ Cert.KernelIdeal.sig) → Buf (Elt Ideal) ℓ) (c : Dev Cert.KernelIdeal.nD) :
    Pipeline.afterRegion (mdat (at1 (seg0 m)) (V17 m (outs0 m)) c) (V17 m (outs0 m) c) (Proc.devRef .tc Cert.KernelIdeal.main_v49)
      = Cert.ReferenceIdeal.Read.val_main_v86 (F := Ideal) (ar0 m c) (seg0 m) (ar2 m c) (ar3 m c) (ar4 m c) (ar5 m c) :=
  (Pipeline.afterRegion_arr (mdat (at1 (seg0 m)) (V17 m (outs0 m)) c) (V17 m (outs0 m) c) (Cert.KernelIdeal.Gen.launch1 (F := Ideal)).win.arr_inj 5).trans
    (final1 (seg0 m) m c)

/-- The reference's run, its result by the name of the stage that writes it. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v86) = Cert.ReferenceIdeal.Read.val_main_v86 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5) :=
  (θ_run Cert.ReferenceIdeal.defs _ _).mono
    (fun _ h c => ⟨(h c).1.trans (Cert.ReferenceIdeal.Read.val_main_v86_eq m c), (h c).2⟩)
    (Cert.ReferenceIdeal.Value.run (F := Ideal) m ρ)

/-- The two calls and the plain reference compute the same array. -/
theorem algebraic : Cert.algebraic_KernelIdeal_ReferenceIdeal := by
  intro m g m' g' hpre hagree
  refine ⟨_, (θ_run _ _ _).mono (fun r h c => ⟨(h.1 c).1.trans (kernel_val m c), (h.1 c).2⟩)
    (Cert.KernelIdeal.Moe.run_main (F := Ideal) m g), (θ_run _ _ _).mono (fun r h c => ?_) (reference_run m' g')⟩
  obtain ⟨h1, h2⟩ := h c
  obtain ⟨a0, a1, a2, a3, a4, a5⟩ := hagree c
  obtain rfl : c = 0 := Subsingleton.elim _ _
  rw [a0, a1, a2, a3, a4, a5] at h1
  exact ⟨h1, h2⟩

/-- The two calls' run over machine words: it ends, faults nowhere, leaves the arguments and every counter as they were. -/
theorem frame_kernel : Cert.quiescent_Kernel := fun m ρ _ =>
  Cert.Same.run_same _ _
  ((θ_run Cert.KernelIdeal.defs _ _).mono (fun _ h => ⟨fun c => (h.1 c).2, h.2⟩)
    (Cert.KernelIdeal.Moe.run_main (F := Bits) m ρ))

/-- The same run over extended reals. -/
theorem frame_kernelIdeal : Cert.quiescent_KernelIdeal := fun m ρ _ =>
  (θ_run Cert.KernelIdeal.defs _ _).mono (fun _ h => ⟨fun c => (h.1 c).2, h.2⟩)
    (Cert.KernelIdeal.Moe.run_main (F := Ideal) m ρ)

/-- The reference leaves its arguments as they were; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (reference_run m ρ)

theorem claim : Cert.Claim := ⟨Cert.Kernel.Gen.facts, Cert.KernelIdeal.Gen.facts, Cert.ReferenceIdeal.Gen.facts,
  frame_kernel, frame_kernelIdeal, frame_reference, trivial, algebraic⟩

end Cert.Proof

end
